-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S2x2048x1024 : Shape := ⟨3, ![2, 2048, 1024]⟩
abbrev S2x256x8x8x128 : Shape := ⟨5, ![2, 256, 8, 8, 128]⟩
abbrev S4194304 : Shape := ⟨1, ![4194304]⟩
abbrev S32x16384x128 : Shape := ⟨3, ![32, 16384, 128]⟩
abbrev S2048 : Shape := ⟨1, ![2048]⟩
abbrev S16x16x128 : Shape := ⟨3, ![16, 16, 128]⟩
abbrev S_ : Shape := ⟨0, ![]⟩
abbrev S16 : Shape := ⟨1, ![16]⟩
abbrev S1x1x16 : Shape := ⟨3, ![1, 1, 16]⟩
abbrev S2x16x256x8x8x128 : Shape := ⟨6, ![2, 16, 256, 8, 8, 128]⟩
abbrev S2x16x2048x1024 : Shape := ⟨4, ![2, 16, 2048, 1024]⟩

abbrev nBuf : Table → Nat
  | .hbm => 8
  | .local .scVector .vmem => 6
  | _ => 0

abbrev bufTy : (tb : Table) → Fin (nBuf tb) → BufTy
  | .hbm, ⟨0, _⟩ => ⟨S2x2048x1024, .f32⟩
  | .hbm, ⟨1, _⟩ => ⟨S2x256x8x8x128, .f32⟩
  | .hbm, ⟨2, _⟩ => ⟨S2x256x8x8x128, .f32⟩
  | .hbm, ⟨3, _⟩ => ⟨S4194304, .f32⟩
  | .hbm, ⟨4, _⟩ => ⟨S32x16384x128, .f32⟩
  | .hbm, ⟨5, _⟩ => ⟨S2x16x256x8x8x128, .f32⟩
  | .hbm, ⟨6, _⟩ => ⟨S2x16x256x8x8x128, .f32⟩
  | .hbm, ⟨7, _⟩ => ⟨S2x16x2048x1024, .f32⟩
  | .local .scVector .vmem, ⟨0, _⟩ => ⟨S2048, .f32⟩
  | .local .scVector .vmem, ⟨1, _⟩ => ⟨S2048, .f32⟩
  | .local .scVector .vmem, ⟨2, _⟩ => ⟨S16x16x128, .f32⟩
  | .local .scVector .vmem, ⟨3, _⟩ => ⟨S16x16x128, .f32⟩
  | .local .scVector .vmem, ⟨4, _⟩ => ⟨S2048, .i32⟩
  | .local .scVector .vmem, ⟨5, _⟩ => ⟨S2048, .i32⟩
  | _, _ => ⟨S2x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v2_scv : Ref sig .scVector := ⟨.hbm, 3, rfl⟩
abbrev main_v3_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c2048_i32 : BitVec 32 := 2048#32
  let v7 : BitVec 32 := Scalar.addi c0_i32_1 c2048_i32
  let c1_i32 : BitVec 32 := 1#32
  ⟨c0_i32_1, v7, c1_i32⟩
def k0_off1 (k0_t1 : Fin k0_t1_loop.trips) : Fin 3 → Nat :=
  let c0_i32_27 : BitVec 32 := 0#32
  let c0_i32_1 : BitVec 32 := 0#32
  let c1_i32 : BitVec 32 := 1#32
  let arg14 : BitVec 32 := Scf.iv c0_i32_1 c1_i32 k0_t1
  let c1_i32_26 : BitVec 32 := 1#32
  let v23 : BitVec 32 := Scalar.muli arg14 c1_i32_26
  let v24 : BitVec 32 := Scalar.addi c0_i32_27 v23
  let c7_i32 : BitVec 32 := 7#32
  let v25 : BitVec 32 := Scalar.shrsi v24 c7_i32
  let v30 : Index := Scalar.indexCast v25
  let c3_i32 : BitVec 32 := 3#32
  let v26 : BitVec 32 := Scalar.shrsi v24 c3_i32
  let c15_i32 : BitVec 32 := 15#32
  let v27 : BitVec 32 := Scalar.andi v26 c15_i32
  let v31 : Index := Scalar.indexCast v27
  let c7_i32_28 : BitVec 32 := 7#32
  let v28 : BitVec 32 := Scalar.andi v24 c7_i32_28
  let c16_i32 : BitVec 32 := 16#32
  let v29 : BitVec 32 := Scalar.muli v28 c16_i32
  let v32 : Index := Scalar.indexCast v29
  ![v30.toNat, v31.toNat, v32.toNat]
@[reducible] def k0_t2_loop : Scf.Loop 32 :=
  let c0_i32_3 : BitVec 32 := 0#32
  let c128_i32_4 : BitVec 32 := 128#32
  let v8 : BitVec 32 := Scalar.addi c0_i32_3 c128_i32_4
  let c1_i32_5 : BitVec 32 := 1#32
  ⟨c0_i32_3, v8, c1_i32_5⟩
def k0_off2 (k0_t2 : Fin k0_t2_loop.trips) : Fin 1 → Nat :=
  let c0_i32_27 : BitVec 32 := 0#32
  let c0_i32_3 : BitVec 32 := 0#32
  let c1_i32_5 : BitVec 32 := 1#32
  let arg14 : BitVec 32 := Scf.iv c0_i32_3 c1_i32_5 k0_t2
  let c1_i32_26 : BitVec 32 := 1#32
  let v23 : BitVec 32 := Scalar.muli arg14 c1_i32_26
  let v24 : BitVec 32 := Scalar.addi c0_i32_27 v23
  let c16_i32 : BitVec 32 := 16#32
  let v25 : BitVec 32 := Scalar.muli v24 c16_i32
  let v26 : Index := Scalar.indexCast v25
  ![v26.toNat]
def k0_off3 (i : grid0.Coords) (c0_i32_7 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v9 : BitVec 32 := Scalar.addi v2 c0_i32_7
  let c1024_i32 : BitVec 32 := 1024#32
  let v10 : BitVec 32 := Scalar.muli v9 c1024_i32
  ![v10.toNat]
@[reducible] def k0_t3_loop : Scf.Loop 32 :=
  let c0_i32_11 : BitVec 32 := 0#32
  let c32_i32 : BitVec 32 := 32#32
  let v17 : BitVec 32 := Scalar.addi c0_i32_11 c32_i32
  let c1_i32_12 : BitVec 32 := 1#32
  ⟨c0_i32_11, v17, c1_i32_12⟩
@[reducible] def k0_t4_loop : Scf.Loop 32 :=
  let c0_i32_33 : BitVec 32 := 0#32
  let c128_i32_34 : BitVec 32 := 128#32
  let v34 : BitVec 32 := Scalar.addi c0_i32_33 c128_i32_34
  let c1_i32_35 : BitVec 32 := 1#32
  ⟨c0_i32_33, v34, c1_i32_35⟩
def k0_off4 (k0_t4 : Fin k0_t4_loop.trips) : Fin 1 → Nat :=
  let c0_i32_61 : BitVec 32 := 0#32
  let c0_i32_33 : BitVec 32 := 0#32
  let c1_i32_35 : BitVec 32 := 1#32
  let arg16 : BitVec 32 := Scf.iv c0_i32_33 c1_i32_35 k0_t4
  let c1_i32_60 : BitVec 32 := 1#32
  let v61 : BitVec 32 := Scalar.muli arg16 c1_i32_60
  let v62 : BitVec 32 := Scalar.addi c0_i32_61 v61
  let c16_i32_63 : BitVec 32 := 16#32
  let v70 : BitVec 32 := Scalar.muli v62 c16_i32_63
  let v71 : Index := Scalar.indexCast v70
  ![v71.toNat]

def k0_chk1 (v65 : IVec S16 32) (v69 : IVec S16 32) (v89 : IVec S16 32) : Prop :=
  (∀ a x, ((![v89, v65, v69] : Fin 3 → IVec S16 32) a x).toNat < S16x16x128.size a)
theorem k0_idx1_inb : ∀ (v65 : IVec S16 32) (v69 : IVec S16 32) (v89 : IVec S16 32) (k0_hw1 : k0_chk1 v65 v69 v89), ∀ a x, ((![v89, v65, v69] : Fin 3 → IVec S16 32) a x).toNat < S16x16x128.size a := fun v65 v69 v89 k0_hw1 => k0_hw1

def k0_chk2 (v65 : IVec S16 32) (v69 : IVec S16 32) (v86 : IVec S16 32) : Prop :=
  (∀ a x, ((![v86, v65, v69] : Fin 3 → IVec S16 32) a x).toNat < S16x16x128.size a)
theorem k0_idx2_inb : ∀ (v65 : IVec S16 32) (v69 : IVec S16 32) (v86 : IVec S16 32) (k0_hw2 : k0_chk2 v65 v69 v86), ∀ a x, ((![v86, v65, v69] : Fin 3 → IVec S16 32) a x).toNat < S16x16x128.size a := fun v65 v69 v86 k0_hw2 => k0_hw2
def k0_off5 (k0_t4 : Fin k0_t4_loop.trips) : Fin 1 → Nat :=
  let c0_i32_61 : BitVec 32 := 0#32
  let c0_i32_33 : BitVec 32 := 0#32
  let c1_i32_35 : BitVec 32 := 1#32
  let arg16 : BitVec 32 := Scf.iv c0_i32_33 c1_i32_35 k0_t4
  let c1_i32_60 : BitVec 32 := 1#32
  let v61 : BitVec 32 := Scalar.muli arg16 c1_i32_60
  let v62 : BitVec 32 := Scalar.addi c0_i32_61 v61
  let c16_i32_72 : BitVec 32 := 16#32
  let v94 : BitVec 32 := Scalar.muli v62 c16_i32_72
  let v95 : Index := Scalar.indexCast v94
  ![v95.toNat]
def k0_cond2 (k0_t3 : Fin k0_t3_loop.trips) : BitVec 1 :=
  let c0_i32_11 : BitVec 32 := 0#32
  let c1_i32_12 : BitVec 32 := 1#32
  let arg14 : BitVec 32 := Scf.iv c0_i32_11 c1_i32_12 k0_t3
  let c31_i32 : BitVec 32 := 31#32
  let v35 : BitVec 1 := Scalar.cmpi .slt arg14 c31_i32
  let v36 : BitVec 32 := Scalar.extui v35
  let c0_i32_37 : BitVec 32 := 0#32
  let v37 : BitVec 1 := Scalar.cmpi .ne v36 c0_i32_37
  v37

def k0_off6 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_11 : BitVec 32 := 0#32
  let c1_i32_12 : BitVec 32 := 1#32
  let arg14 : BitVec 32 := Scf.iv c0_i32_11 c1_i32_12 k0_t3
  let c2_i32_26 : BitVec 32 := 2#32
  let v23 : BitVec 32 := Scalar.muli arg14 c2_i32_26
  let c0_i32_27 : BitVec 32 := 0#32
  let v24 : BitVec 32 := Scalar.addi v23 c0_i32_27
  let c2_i32_28 : BitVec 32 := 2#32
  let v25 : BitVec 32 := Scalar.muli v24 c2_i32_28
  let v26 : BitVec 32 := Scalar.addi v2 v25
  let c4_i32 : BitVec 32 := 4#32
  let v61 : BitVec 32 := Scalar.addi v26 c4_i32
  let c1024_i32_60 : BitVec 32 := 1024#32
  let v62 : BitVec 32 := Scalar.muli v61 c1024_i32_60
  ![v62.toNat]
def k0_off7 (i : grid0.Coords) (k0_t3 : Fin k0_t3_loop.trips) (c0_i32_27 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_11 : BitVec 32 := 0#32
  let c1_i32_12 : BitVec 32 := 1#32
  let arg14 : BitVec 32 := Scf.iv c0_i32_11 c1_i32_12 k0_t3
  let c2_i32_26 : BitVec 32 := 2#32
  let v23 : BitVec 32 := Scalar.muli arg14 c2_i32_26
  let v24 : BitVec 32 := Scalar.addi v23 c0_i32_27
  let c2_i32_28 : BitVec 32 := 2#32
  let v25 : BitVec 32 := Scalar.muli v24 c2_i32_28
  let v26 : BitVec 32 := Scalar.addi v2 v25
  let c11_i32 : BitVec 32 := 11#32
  let v27 : BitVec 32 := Scalar.shrsi v26 c11_i32
  let c16_i32 : BitVec 32 := 16#32
  let v38 : BitVec 32 := Scalar.muli v27 c16_i32
  let c2047_i32 : BitVec 32 := 2047#32
  let v28 : BitVec 32 := Scalar.andi v26 c2047_i32
  let c8_i32 : BitVec 32 := 8#32
  let v39 : BitVec 32 := Scalar.muli v28 c8_i32
  let c0_i32_38 : BitVec 32 := 0#32
  ![v38.toNat, v39.toNat, 0]
@[reducible] def k0_t5_loop : Scf.Loop 32 :=
  let c0_i32_49 : BitVec 32 := 0#32
  let c128_i32_50 : BitVec 32 := 128#32
  let v53 : BitVec 32 := Scalar.addi c0_i32_49 c128_i32_50
  let c1_i32_51 : BitVec 32 := 1#32
  ⟨c0_i32_49, v53, c1_i32_51⟩
def k0_off8 (k0_t5 : Fin k0_t5_loop.trips) : Fin 1 → Nat :=
  let c0_i32_61 : BitVec 32 := 0#32
  let c0_i32_49 : BitVec 32 := 0#32
  let c1_i32_51 : BitVec 32 := 1#32
  let arg16 : BitVec 32 := Scf.iv c0_i32_49 c1_i32_51 k0_t5
  let c1_i32_60 : BitVec 32 := 1#32
  let v61 : BitVec 32 := Scalar.muli arg16 c1_i32_60
  let v62 : BitVec 32 := Scalar.addi c0_i32_61 v61
  let c16_i32_63 : BitVec 32 := 16#32
  let v70 : BitVec 32 := Scalar.muli v62 c16_i32_63
  let v71 : Index := Scalar.indexCast v70
  ![v71.toNat]

def k0_chk3 (v65 : IVec S16 32) (v69 : IVec S16 32) (v89 : IVec S16 32) : Prop :=
  (∀ a x, ((![v89, v65, v69] : Fin 3 → IVec S16 32) a x).toNat < S16x16x128.size a)
theorem k0_idx3_inb : ∀ (v65 : IVec S16 32) (v69 : IVec S16 32) (v89 : IVec S16 32) (k0_hw3 : k0_chk3 v65 v69 v89), ∀ a x, ((![v89, v65, v69] : Fin 3 → IVec S16 32) a x).toNat < S16x16x128.size a := fun v65 v69 v89 k0_hw3 => k0_hw3

def k0_chk4 (v65 : IVec S16 32) (v69 : IVec S16 32) (v86 : IVec S16 32) : Prop :=
  (∀ a x, ((![v86, v65, v69] : Fin 3 → IVec S16 32) a x).toNat < S16x16x128.size a)
theorem k0_idx4_inb : ∀ (v65 : IVec S16 32) (v69 : IVec S16 32) (v86 : IVec S16 32) (k0_hw4 : k0_chk4 v65 v69 v86), ∀ a x, ((![v86, v65, v69] : Fin 3 → IVec S16 32) a x).toNat < S16x16x128.size a := fun v65 v69 v86 k0_hw4 => k0_hw4
def k0_off9 (k0_t5 : Fin k0_t5_loop.trips) : Fin 1 → Nat :=
  let c0_i32_61 : BitVec 32 := 0#32
  let c0_i32_49 : BitVec 32 := 0#32
  let c1_i32_51 : BitVec 32 := 1#32
  let arg16 : BitVec 32 := Scf.iv c0_i32_49 c1_i32_51 k0_t5
  let c1_i32_60 : BitVec 32 := 1#32
  let v61 : BitVec 32 := Scalar.muli arg16 c1_i32_60
  let v62 : BitVec 32 := Scalar.addi c0_i32_61 v61
  let c16_i32_72 : BitVec 32 := 16#32
  let v94 : BitVec 32 := Scalar.muli v62 c16_i32_72
  let v95 : Index := Scalar.indexCast v94
  ![v95.toNat]
def k0_cond4 (k0_t3 : Fin k0_t3_loop.trips) : BitVec 1 :=
  let c0_i32_11 : BitVec 32 := 0#32
  let c1_i32_12 : BitVec 32 := 1#32
  let arg14 : BitVec 32 := Scf.iv c0_i32_11 c1_i32_12 k0_t3
  let c31_i32_53 : BitVec 32 := 31#32
  let v54 : BitVec 1 := Scalar.cmpi .slt arg14 c31_i32_53
  let v55 : BitVec 32 := Scalar.extui v54
  let c0_i32_54 : BitVec 32 := 0#32
  let v56 : BitVec 1 := Scalar.cmpi .ne v55 c0_i32_54
  v56

def k0_off10 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_11 : BitVec 32 := 0#32
  let c1_i32_12 : BitVec 32 := 1#32
  let arg14 : BitVec 32 := Scf.iv c0_i32_11 c1_i32_12 k0_t3
  let c2_i32_40 : BitVec 32 := 2#32
  let v42 : BitVec 32 := Scalar.muli arg14 c2_i32_40
  let c1_i32_41 : BitVec 32 := 1#32
  let v43 : BitVec 32 := Scalar.addi v42 c1_i32_41
  let c2_i32_42 : BitVec 32 := 2#32
  let v44 : BitVec 32 := Scalar.muli v43 c2_i32_42
  let v45 : BitVec 32 := Scalar.addi v2 v44
  let c4_i32 : BitVec 32 := 4#32
  let v61 : BitVec 32 := Scalar.addi v45 c4_i32
  let c1024_i32_60 : BitVec 32 := 1024#32
  let v62 : BitVec 32 := Scalar.muli v61 c1024_i32_60
  ![v62.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x2048x1024 : Shape := ⟨3, ![2, 2048, 1024]⟩
abbrev S_ : Shape := ⟨0, ![]⟩
abbrev S2 : Shape := ⟨1, ![2]⟩
abbrev S2x1x1 : Shape := ⟨3, ![2, 1, 1]⟩
abbrev S2048 : Shape := ⟨1, ![2048]⟩
abbrev S1x2048x1 : Shape := ⟨3, ![1, 2048, 1]⟩
abbrev S1024 : Shape := ⟨1, ![1024]⟩
abbrev S1x1x1024 : Shape := ⟨3, ![1, 1, 1024]⟩
abbrev S2x16x2048x1024 : Shape := ⟨4, ![2, 16, 2048, 1024]⟩
abbrev S2x2048x1024x1 : Shape := ⟨4, ![2, 2048, 1024, 1]⟩
abbrev S2x2048x1024x4 : Shape := ⟨4, ![2, 2048, 1024, 4]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S_, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048x1024, .f32⟩
  | .hbm, ⟨11, _⟩ => ⟨S2x2048x1024, .f32⟩
  | .hbm, ⟨12, _⟩ => ⟨S2x2048x1024, .i32⟩
  | .hbm, ⟨13, _⟩ => ⟨S2, .i32⟩
  | .hbm, ⟨14, _⟩ => ⟨S2x1x1, .i32⟩
  | .hbm, ⟨15, _⟩ => ⟨S2048, .i32⟩
  | .hbm, ⟨16, _⟩ => ⟨S1x2048x1, .i32⟩
  | .hbm, ⟨17, _⟩ => ⟨S1024, .i32⟩
  | .hbm, ⟨18, _⟩ => ⟨S1x1x1024, .i32⟩
  | .hbm, ⟨19, _⟩ => ⟨S_, .f32⟩
  | .hbm, ⟨20, _⟩ => ⟨S2x16x2048x1024, .f32⟩
  | .hbm, ⟨21, _⟩ => ⟨S_, .i32⟩
  | .hbm, ⟨22, _⟩ => ⟨S2x1x1, .i32⟩
  | .hbm, ⟨23, _⟩ => ⟨S2x1x1, .i1⟩
  | .hbm, ⟨24, _⟩ => ⟨S_, .i32⟩
  | .hbm, ⟨25, _⟩ => ⟨S2x1x1, .i32⟩
  | .hbm, ⟨26, _⟩ => ⟨S2x1x1, .i32⟩
  | .hbm, ⟨27, _⟩ => ⟨S2x1x1, .i32⟩
  | .hbm, ⟨28, _⟩ => ⟨S_, .i32⟩
  | .hbm, ⟨29, _⟩ => ⟨S2x2048x1024, .i32⟩
  | .hbm, ⟨30, _⟩ => ⟨S2x2048x1024, .i1⟩
  | .hbm, ⟨31, _⟩ => ⟨S_, .i32⟩
  | .hbm, ⟨32, _⟩ => ⟨S2x2048x1024, .i32⟩
  | .hbm, ⟨33, _⟩ => ⟨S2x2048x1024, .i32⟩
  | .hbm, ⟨34, _⟩ => ⟨S2x2048x1024, .i32⟩
  | .hbm, ⟨35, _⟩ => ⟨S_, .i32⟩
  | .hbm, ⟨36, _⟩ => ⟨S1x2048x1, .i32⟩
  | .hbm, ⟨37, _⟩ => ⟨S1x2048x1, .i1⟩
  | .hbm, ⟨38, _⟩ => ⟨S_, .i32⟩
  | .hbm, ⟨39, _⟩ => ⟨S1x2048x1, .i32⟩
  | .hbm, ⟨40, _⟩ => ⟨S1x2048x1, .i32⟩
  | .hbm, ⟨41, _⟩ => ⟨S1x2048x1, .i32⟩
  | .hbm, ⟨42, _⟩ => ⟨S_, .i32⟩
  | .hbm, ⟨43, _⟩ => ⟨S1x1x1024, .i32⟩
  | .hbm, ⟨44, _⟩ => ⟨S1x1x1024, .i1⟩
  | .hbm, ⟨45, _⟩ => ⟨S_, .i32⟩
  | .hbm, ⟨46, _⟩ => ⟨S1x1x1024, .i32⟩
  | .hbm, ⟨47, _⟩ => ⟨S1x1x1024, .i32⟩
  | .hbm, ⟨48, _⟩ => ⟨S1x1x1024, .i32⟩
  | .hbm, ⟨49, _⟩ => ⟨S2x2048x1024, .i32⟩
  | .hbm, ⟨50, _⟩ => ⟨S2x2048x1024, .i32⟩
  | .hbm, ⟨51, _⟩ => ⟨S2x2048x1024, .i32⟩
  | .hbm, ⟨52, _⟩ => ⟨S2x2048x1024x1, .i32⟩
  | .hbm, ⟨53, _⟩ => ⟨S2x2048x1024x1, .i32⟩
  | .hbm, ⟨54, _⟩ => ⟨S2x2048x1024x1, .i32⟩
  | .hbm, ⟨55, _⟩ => ⟨S2x2048x1024x1, .i32⟩
  | .hbm, ⟨56, _⟩ => ⟨S2x2048x1024x4, .i32⟩
  | .hbm, ⟨57, _⟩ => ⟨S_, .f32⟩
  | .hbm, ⟨58, _⟩ => ⟨S2x2048x1024, .f32⟩
  | .hbm, ⟨59, _⟩ => ⟨S2x16x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_4 : Ref sig .tc := ⟨.hbm, 28, rfl⟩
abbrev main_v21 : Ref sig .tc := ⟨.hbm, 29, rfl⟩
abbrev main_v22 : Ref sig .tc := ⟨.hbm, 30, rfl⟩
abbrev main_c_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_c_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_c_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Proof.Scatter.lean ====
/-
  What one sixteen-lane step of the encoder does to its buffers, as a statement about plain functions. The encoder's
  output block is indexed by (time, segment, lane) and its state by a flat position; a step at trip `t` handles the
  positions `16 t … 16 t + 15`, every lane at one position of its own.
-/
module

public import proofs.«01_k».proof.Defs
public import Idealize.ShloMosaic.Lib.Tactic
public import proofs.«01_k».proof.Proof.Gen.KernelIdeal
public import proofs.«01_k».proof.Proof.Gen.KernelIdeal.Skeleton

@[expose] public section

noncomputable section

namespace Cert.Proof.Spike

open Cert.KernelIdeal Cert.KernelIdeal.Gen
open Idealize.ShloMosaic

/-! ## A scatter whose lanes name different places -/

section Scatter

variable {F : FTy → Type} [FloatOps F] {s : Shape} {e : EltTy} {d : Fin 1 → Nat}

/-- A place no lane names keeps its value. -/
theorem storeIdx_off (f : Vec F s e) (ix : Fin s.rank → IVec ⟨1, d⟩ 32) (v : Vec F ⟨1, d⟩ e)
    (h : ∀ a x, (ix a x).toNat < s.size a) (y : s.Idx)
    (hy : ∀ k : Fin (d 0), ¬ ∀ a, (y a).val = (ix a (Shape.ofLane k)).toNat) :
    storeIdx f ix v (fun _ => 1#1) false h y = f y := by
  unfold storeIdx
  generalize List.finRange (d 0) = l
  induction l generalizing f with
  | nil => rfl
  | cons k l ih =>
    rw [List.foldl_cons, ih]
    show (if (1#1 : BitVec 1) = 1 then _ else _ : Vec F s e) y = f y
    rw [if_pos (show (1#1 : BitVec 1) = 1 from rfl)]
    exact if_neg (hy k)

/-- A place exactly one lane names takes that lane's value. -/
theorem storeIdx_on (f : Vec F s e) (ix : Fin s.rank → IVec ⟨1, d⟩ 32) (v : Vec F ⟨1, d⟩ e)
    (h : ∀ a x, (ix a x).toNat < s.size a) (y : s.Idx) (k : Fin (d 0))
    (hk : ∀ a, (y a).val = (ix a (Shape.ofLane k)).toNat)
    (hu : ∀ k' : Fin (d 0), (∀ a, (y a).val = (ix a (Shape.ofLane k')).toNat) → k' = k) :
    storeIdx f ix v (fun _ => 1#1) false h y = v (Shape.ofLane k) := by
  have key : ∀ (l : List (Fin (d 0))) (f : Vec F s e), (k ∈ l ∨ f y = v (Shape.ofLane k)) →
      l.foldl (fun g k' => fun j => if (∀ a, (j a).val = (ix a (Shape.ofLane k')).toNat) then v (Shape.ofLane k') else g j) f y
        = v (Shape.ofLane k) := by
    intro l
    induction l with
    | nil => intro f hf; exact hf.resolve_left List.not_mem_nil
    | cons k' l ih =>
      intro f hf
      rw [List.foldl_cons]
      apply ih
      by_cases e' : k' = k
      · subst e'; right; simp only [if_pos hk]
      · rcases hf with hf | hf
        · rcases List.mem_cons.mp hf with hf | hf
          · exact absurd hf.symm e'
          · exact .inl hf
        · right
          have : ¬ ∀ a, (y a).val = (ix a (Shape.ofLane k')).toNat := fun hh => e' (hu k' hh)
          simp only [if_neg this]; exact hf
  have := key (List.finRange (d 0)) f (.inl (List.mem_finRange k))
  unfold storeIdx
  simpa [idxAt] using this

end Scatter

/-! ## Positions -/

/-- The flat position of a place of the output block within its segment-and-lane plane. -/
def flatPos (y : S16x16x128.Idx) : ℕ := 128 * (y 1).val + (y 2).val

theorem flatPos_lt (y : S16x16x128.Idx) : flatPos y < 2048 := by
  have h1 : (y 1).val < 16 := (y 1).isLt
  have h2 : (y 2).val < 128 := (y 2).isLt
  unfold flatPos; omega

/-- That position as an index of a chunk. -/
def flat (y : S16x16x128.Idx) : S2048.Idx := fun a => match a with | 0 => ⟨flatPos y, flatPos_lt y⟩

/-- Lane `k` of a sixteen-lane vector. -/
def lane (k : ℕ) (hk : k < 16) : S16.Idx := fun a => match a with | 0 => ⟨k, hk⟩

theorem lane_ext (x x' : S16.Idx) (h : (x 0).val = (x' 0).val) : x = x' := by
  funext a; match a with | 0 => exact Fin.ext h

theorem idx2048_ext (x x' : S2048.Idx) (h : (x 0).val = (x' 0).val) : x = x' := by
  funext a; match a with | 0 => exact Fin.ext h

/-- The segment word of trip `t`. -/
def segW (t : Fin k0_t4_loop.trips) : IVec S16 32 :=
  broadcast S16 (Scalar.andi (Scalar.shrsi (Scalar.addi 0#32 (Scalar.muli (Scf.iv 0#32 1#32 t) 1#32)) 3#32) 15#32)

/-- The lane words of trip `t`. -/
def laneW (t : Fin k0_t4_loop.trips) : IVec S16 32 := k0_pay1 (iota .scVector S16 32 [0] iota_S16_d0_w32_scVector) t

set_option maxRecDepth 65536 in
theorem segW_eq (t : Fin k0_t4_loop.trips) (x : S16.Idx) : (segW t x).toNat = t.val / 8 := by
  have : ∀ t : Fin k0_t4_loop.trips,
      (Scalar.andi (Scalar.shrsi (Scalar.addi 0#32 (Scalar.muli (Scf.iv 0#32 1#32 t) 1#32)) 3#32) 15#32).toNat = t.val / 8 := by
    decide +kernel
  exact this t

set_option maxRecDepth 65536 in
theorem laneW_eq (t : Fin k0_t4_loop.trips) (x : S16.Idx) : (laneW t x).toNat = 16 * (t.val % 8) + (x 0).val := by
  have : ∀ (t : Fin k0_t4_loop.trips) (k : Fin 16), (laneW t (lane k.val k.isLt)).toNat = 16 * (t.val % 8) + k.val := by
    decide +kernel
  have e : x = lane (x 0).val (x 0).isLt := lane_ext _ _ rfl
  rw [e]; exact this t (x 0)

section Step

variable {F : FTy → Type} [FloatOps F]

/-- The float words one and zero. -/
def one : F .f32 := Scalar.ofBits .f32 0x3F800000#32
def zero : F .f32 := Scalar.ofBits .f32 0x00000000#32

/-- The spike time the kernel computes for one input. -/
def code (x : F .f32) : BitVec 32 := k0_pay2 (F := F) (fun _ => x) (lane 0 (by decide))

theorem k0_pay2_apply (v : Vec F S16 .f32) (x : S16.Idx) : k0_pay2 (F := F) v x = code (v x) := rfl

/-- The scatter of trip `t` at the times `ix`: the sixteen places it names take their lane's value, every other keeps its
own. -/
theorem scatter_apply (ob : Vec F S16x16x128 .f32) (t : Fin k0_t4_loop.trips) (ix : IVec S16 32) (v : Vec F S16 .f32)
    (h : ∀ a x, ((![ix, segW t, laneW t] : Fin 3 → IVec S16 32) a x).toNat < S16x16x128.size a) (y : S16x16x128.Idx) :
    storeIdx (F := F) (s := S16x16x128) (e := .f32) ob ![ix, segW t, laneW t] v (fun _ => 1#1) false h y
      = if hk : 16 * t.val ≤ flatPos y ∧ flatPos y < 16 * t.val + 16 then
          if (y 0).val = (ix (lane (flatPos y - 16 * t.val) (by omega))).toNat
            then v (lane (flatPos y - 16 * t.val) (by omega)) else ob y
        else ob y := by
  have ht : t.val < 128 := t.isLt
  have h1 : (y 1).val < 16 := (y 1).isLt
  have h2 : (y 2).val < 128 := (y 2).isLt
  -- which lanes name `y`
  have hit : ∀ k : Fin 16, (∀ a, (y a).val = ((![ix, segW t, laneW t] : Fin 3 → IVec S16 32) a (Shape.ofLane (d := ![16]) k)).toNat)
      ↔ (y 0).val = (ix (lane k.val k.isLt)).toNat ∧ flatPos y = 16 * t.val + k.val := by
    intro k
    have el : (Shape.ofLane (d := ![16]) k : S16.Idx) = lane k.val k.isLt := lane_ext _ _ rfl
    have es := segW_eq t (lane k.val k.isLt)
    have ew := laneW_eq t (lane k.val k.isLt)
    have ew' : (laneW t (lane k.val k.isLt)).toNat = 16 * (t.val % 8) + k.val := ew
    have hk := k.isLt
    constructor
    · intro hh
      have a0 : (y 0).val = (ix (Shape.ofLane (d := ![16]) k)).toNat := hh 0
      have a1 : (y 1).val = (segW t (Shape.ofLane (d := ![16]) k)).toNat := hh 1
      have a2 : (y 2).val = (laneW t (Shape.ofLane (d := ![16]) k)).toNat := hh 2
      rw [el] at a0 a1 a2
      rw [es] at a1; rw [ew'] at a2
      refine ⟨a0, ?_⟩
      unfold flatPos; omega
    · rintro ⟨a0, ap⟩ a
      unfold flatPos at ap
      match a with
      | 0 => show (y 0).val = (ix (Shape.ofLane (d := ![16]) k)).toNat; rw [el]; exact a0
      | 1 => show (y 1).val = (segW t (Shape.ofLane (d := ![16]) k)).toNat; rw [el, es]; omega
      | 2 => show (y 2).val = (laneW t (Shape.ofLane (d := ![16]) k)).toNat; rw [el, ew']; omega
  by_cases hk : 16 * t.val ≤ flatPos y ∧ flatPos y < 16 * t.val + 16
  · rw [dif_pos hk]
    by_cases hv : (y 0).val = (ix (lane (flatPos y - 16 * t.val) (by omega))).toNat
    · rw [if_pos hv]
      let k : Fin 16 := ⟨flatPos y - 16 * t.val, by omega⟩
      have hk' : flatPos y = 16 * t.val + k.val := by show _ = _ + (flatPos y - 16 * t.val); omega
      have e := storeIdx_on (F := F) (d := ![16]) ob ![ix, segW t, laneW t] v h y k ((hit k).mpr ⟨hv, hk'⟩)
        (fun k' h' => Fin.ext (by have := ((hit k').mp h').2; omega))
      rw [show (Shape.ofLane (d := ![16]) k : S16.Idx) = lane (flatPos y - 16 * t.val) (by omega) from lane_ext _ _ rfl] at e
      exact e
    · rw [if_neg hv]
      refine storeIdx_off (F := F) (d := ![16]) ob ![ix, segW t, laneW t] v h y fun k hh => hv ?_
      obtain ⟨a0, ap⟩ := (hit k).mp hh
      rw [a0]; congr 2; exact lane_ext _ _ (by show k.val = flatPos y - 16 * t.val; omega)
  · rw [dif_neg hk]
    refine storeIdx_off (F := F) (d := ![16]) ob ![ix, segW t, laneW t] v h y fun k hh => hk ?_
    have := ((hit k).mp hh).2
    have := k.isLt
    omega

/-! ## The encoder's invariant -/

/-- Before an encoder pass: every state word is a time, and a place of the block can only be non-zero at its state's
time. -/
def Clean (ob : Vec F S16x16x128 .f32) (st : IVec S2048 32) : Prop :=
  ∀ y : S16x16x128.Idx, (st (flat y)).toNat < 16 ∧ ((y 0).val ≠ (st (flat y)).toNat → ob y = zero)

/-- After the first `n` trips of a pass over the chunk `x`: positions below `16 n` hold the chunk's spikes and times. -/
def Enc (n : ℕ) (x : Vec F S2048 .f32) (ob : Vec F S16x16x128 .f32) (st : IVec S2048 32) : Prop :=
  ∀ y : S16x16x128.Idx,
    if flatPos y < 16 * n then st (flat y) = code (x (flat y)) ∧ ob y = (if (y 0).val = (code (x (flat y))).toNat then one else zero)
    else (st (flat y)).toNat < 16 ∧ ((y 0).val ≠ (st (flat y)).toNat → ob y = zero)

/-- The block a finished pass leaves: one at each position's time, zero elsewhere. -/
def spikes (x : Vec F S2048 .f32) : Vec F S16x16x128 .f32 :=
  fun y => if (y 0).val = (code (x (flat y))).toNat then one else zero

theorem Clean.enc {ob : Vec F S16x16x128 .f32} {st : IVec S2048 32} (h : Clean ob st) (x : Vec F S2048 .f32) : Enc 0 x ob st := by
  intro y; rw [if_neg (by omega)]; exact h y

theorem Enc.spikes {x : Vec F S2048 .f32} {ob : Vec F S16x16x128 .f32} {st : IVec S2048 32} (h : Enc 128 x ob st) :
    ob = spikes x := by
  funext y
  have := h y
  rw [if_pos (by have := flatPos_lt y; omega)] at this
  exact this.2

theorem Enc.clean {x : Vec F S2048 .f32} {ob : Vec F S16x16x128 .f32} {st : IVec S2048 32} (hc : ∀ v : F .f32, (code v).toNat < 16)
    (h : Enc 128 x ob st) : Clean ob st := by
  intro y
  have h' := h y
  rw [if_pos (by have := flatPos_lt y; omega)] at h'
  rw [h'.1]
  exact ⟨hc _, fun hne => by rw [h'.2, if_neg hne]⟩

/-- Each state word is a time throughout a pass. -/
theorem Enc.time {n : ℕ} {x : Vec F S2048 .f32} {ob : Vec F S16x16x128 .f32} {st : IVec S2048 32} (hc : ∀ v : F .f32, (code v).toNat < 16)
    (h : Enc n x ob st) (p : S2048.Idx) : (st p).toNat < 16 := by
  have hp : (p 0).val < 2048 := (p 0).isLt
  let y : S16x16x128.Idx := fun a => match a with
    | 0 => ⟨0, by decide⟩
    | 1 => ⟨(p 0).val / 128, by show _ < 16; omega⟩
    | 2 => ⟨(p 0).val % 128, by show _ < 128; omega⟩
  have e : flat y = p := idx2048_ext _ _ (by show 128 * ((p 0).val / 128) + (p 0).val % 128 = (p 0).val; omega)
  have h' := h y
  rw [e] at h'
  split at h'
  · rw [h'.1]; exact hc _
  · exact h'.1

/-- One trip: clear the old spikes, set the new ones, record the new times. -/
theorem Enc.step (t : Fin k0_t4_loop.trips) {x : Vec F S2048 .f32} {ob : Vec F S16x16x128 .f32} {st st' : IVec S2048 32}
    (h : Enc t.val x ob st) (new old : IVec S16 32)
    (hnew : ∀ (k : ℕ) (hk : k < 16) (p : S2048.Idx), (p 0).val = 16 * t.val + k → new (lane k hk) = code (x p))
    (hold : ∀ (k : ℕ) (hk : k < 16) (p : S2048.Idx), (p 0).val = 16 * t.val + k → old (lane k hk) = st p)
    (h1 : ∀ a x, ((![old, segW t, laneW t] : Fin 3 → IVec S16 32) a x).toNat < S16x16x128.size a)
    (h2 : ∀ a x, ((![new, segW t, laneW t] : Fin 3 → IVec S16 32) a x).toNat < S16x16x128.size a)
    (hin : ∀ (k : ℕ) (hk : k < 16) (p : S2048.Idx), (p 0).val = 16 * t.val + k → st' p = new (lane k hk))
    (hout : ∀ p : S2048.Idx, (p 0).val < 16 * t.val ∨ 16 * t.val + 16 ≤ (p 0).val → st' p = st p) :
    Enc (t.val + 1) x
      (storeIdx (F := F) (s := S16x16x128) (e := .f32)
        (storeIdx (F := F) (s := S16x16x128) (e := .f32) ob ![old, segW t, laneW t] (k0_pay3 new old) (fun _ => 1#1) false h1)
        ![new, segW t, laneW t] k0_pay4 (fun _ => 1#1) false h2) st' := by
  intro y
  have hy := h y
  have hf : (flat y 0).val = flatPos y := rfl
  rw [scatter_apply, scatter_apply]
  by_cases hk : 16 * t.val ≤ flatPos y ∧ flatPos y < 16 * t.val + 16
  · rw [dif_pos hk, dif_pos hk, if_pos (by omega)]
    rw [if_neg (by omega)] at hy
    have hkl : flatPos y - 16 * t.val < 16 := by omega
    have ep : (flat y 0).val = 16 * t.val + (flatPos y - 16 * t.val) := by rw [hf]; omega
    have en := hnew _ hkl (flat y) ep
    have eo := hold _ hkl (flat y) ep
    rw [hin _ hkl (flat y) ep]
    refine ⟨en, ?_⟩
    rw [en, eo]
    have e4 : k0_pay4 (F := F) (lane (flatPos y - 16 * t.val) hkl) = one := rfl
    have e3 : k0_pay3 (F := F) new old (lane (flatPos y - 16 * t.val) hkl)
        = if old (lane (flatPos y - 16 * t.val) hkl) = new (lane (flatPos y - 16 * t.val) hkl) then one else zero := by
      show (if BitVec.ofBool _ = 1#1 then _ else _) = _
      by_cases hh : old (lane (flatPos y - 16 * t.val) hkl) = new (lane (flatPos y - 16 * t.val) hkl)
      · rw [if_pos hh, show (old (lane (flatPos y - 16 * t.val) hkl) == new (lane (flatPos y - 16 * t.val) hkl)) = true from beq_iff_eq.mpr hh]; rfl
      · rw [if_neg hh, show (old (lane (flatPos y - 16 * t.val) hkl) == new (lane (flatPos y - 16 * t.val) hkl)) = false from
          beq_eq_false_iff_ne.mpr hh]; rfl
    by_cases hc : (y 0).val = (code (x (flat y))).toNat
    · rw [if_pos hc, if_pos hc, e4]
    · rw [if_neg hc, if_neg hc]
      by_cases ho : (y 0).val = (st (flat y)).toNat
      · rw [if_pos ho, e3, en, eo, if_neg]
        intro hh; rw [hh] at ho; exact hc ho
      · rw [if_neg ho]; exact hy.2 ho
  · rw [dif_neg hk, dif_neg hk, hout (flat y) (by rw [hf]; omega)]
    by_cases hl : flatPos y < 16 * t.val
    · rw [if_pos hl] at hy; rw [if_pos (by omega)]; exact hy
    · rw [if_neg hl] at hy; rw [if_neg (by omega)]; exact hy

end Step

end Cert.Proof.Spike

end
-- ==== Proof.Base.lean ====
/-
  The setting of the kernel's proof: the program as the launch theorem sees it, the ghost state, the memory's names and
  the thread a tile runs on.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Scatter

@[expose] public section

noncomputable section

namespace Cert.Proof.Spike

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev EH : Emb UH (MT nD τ sig (HIx 1) (Elt F) ℕ UU ℕ) := embL

/-! ## The tile's thread -/

abbrev cV (L : grid0.Coords) : Fin τ.nSC := (L 0).castLE hcore0
abbrev jV (L : grid0.Coords) : Fin τ.nSub := (L 1).castLE hsub0

/-- The tile at grid coordinates `L` of device `d`. -/
abbrev tl (d : Dev nD) (L : grid0.Coords) : Thread nD τ := V d (cV L) (jV L)

end Cert.Proof.Spike

end
-- ==== Proof.Encode.lean ====
/-
  One pass of the encoder over a chunk: 128 trips of sixteen lanes, run on any whole buffers. Both slots of the kernel
  run the same pass.
-/
module

public import proofs.«01_k».proof.Proof.Base
public import Idealize.ShloMosaic.Lib.Writes
public import Idealize.ShloMosaic.Lib.WholeRead
public import Idealize.ShloMosaic.Lib.WordExact

@[expose] public section

noncomputable section

namespace Cert.Proof.Spike

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A scatter into a whole buffer: the buffer afterwards reads the scatter of what it read. -/
theorem wp_scatterWhole {c : Thread nD τ} {s : Shape} {e : EltTy} {dd : Fin 1 → ℕ} {α : Type} {base : Memref sig c.2.kind .vmem s e} (hb : base.IsWhole)
    {ix : Fin s.rank → IVec ⟨1, dd⟩ 32} {v : Vec F ⟨1, dd⟩ e} {mask : IVec ⟨1, dd⟩ 1} {h : ∀ a x, (ix a x).toNat < s.size a}
    {hs : (base.access (.whole s)).Stores Finset.univ} {k : PUnit → Prog (TpuEff nD τ sig (Elt F) Λ₀ c.2) α}
    {f : Buf (Elt F) (base.view.loc c)} {Q : α → sProp 𝕄} :
    (base.view.loc c ↦{fullShare} f)
      ⊢ iprop((∀ g : Buf (Elt F) (base.view.loc c), ⌜base.view.read (Elt F) g = storeIdx (base.view.read (Elt F) f) ix v mask false h⌝
            -∗ (base.view.loc c ↦{fullShare} g) -∗ wp frame (wpE (defs₀ (F := F)) 𝒱₀ c none) Set.univ (k ⟨⟩) Q)
          -∗ wp frame (wpE (defs₀ (F := F)) 𝒱₀ c none) Set.univ (SparseCore.vectorStoreIdx base ix v mask false h hs >>= k) Q) := by
  have hset : (base.access (.whole s)).set = (Finset.univ : Finset (Idx (base.view.loc c))) :=
    (View.set_slice_rectWhole base.view).trans hb.set_eq_univ
  have hrd : ∀ f : Buf (Elt F) (base.view.loc c), (base.access (.whole s)).read (Elt F) f = base.view.read (Elt F) f := fun f => by
    funext x; show base.view.read (Elt F) f ((Rect.whole s).emb x) = _; rw [Rect.emb_whole_apply]
  have hwr : ∀ (f : Buf (Elt F) (base.view.loc c)) (w : Vec F s e),
      base.view.read (Elt F) ((base.access (.whole s)).write (Elt F) f w Finset.univ) = w := fun f w => by
    rw [← hrd]; exact View.read_write_univ _ _
  have h0 := SparseCore.wp_vectorStoreIdx (Ix := HIx 1) (Name := ℕ) (U := UU) (Lvl := ℕ) (defs := defs₀ (F := F)) 𝒱₀ c none Set.univ (base := base) (idxs := ix) (v := v) (mask := mask) (add := false) (h := h) (hs := hs) (k := k) (f := f) (Q := Q)
  rw [hset, hrd] at h0
  iintro H Hk
  iapply h0 $$ H
  iintro H
  iapply Hk $$ [] H
  ipureintro
  exact hwr _ _

variable (d : Dev nD) (L : grid0.Coords)
  (arg2 : Memref sig .scVector .hbm S4194304 .f32) (harg2 : arg2.IsWhole) (arg3 : Memref sig .scVector .hbm S32x16384x128 .f32) (harg3 : arg3.IsWhole)
  (arg4 : Memref sig .scVector .vmem S2048 .f32) (harg4 : arg4.IsWhole) (arg5 : Memref sig .scVector .vmem S2048 .f32) (harg5 : arg5.IsWhole)
  (arg6 : Memref sig .scVector .vmem S16x16x128 .f32) (harg6 : arg6.IsWhole) (arg7 : Memref sig .scVector .vmem S16x16x128 .f32) (harg7 : arg7.IsWhole)
  (arg8 : Memref sig .scVector .vmem S2048 .i32) (harg8 : arg8.IsWhole) (arg9 : Memref sig .scVector .vmem S2048 .i32) (harg9 : arg9.IsWhole)
  (arg10 arg11 arg12 arg13 : DmaSems sig S_)

/-- What a pass holds after `n` trips: the chunk, the block and the state, related by `Enc`. -/
def encInv (fx : Buf (Elt F) (arg4.view.loc (tl d L))) (n : ℕ) : sProp 𝕄 :=
  iprop((arg4.view.loc (tl d L) ↦{fullShare} fx)
    ∗ ∃ (fo : Buf (Elt F) (arg6.view.loc (tl d L))) (fs : Buf (Elt F) (arg8.view.loc (tl d L))),
        (arg6.view.loc (tl d L) ↦{fullShare} fo) ∗ (arg8.view.loc (tl d L) ↦{fullShare} fs)
        ∗ ⌜Enc n (arg4.view.read (Elt F) fx) (arg6.view.read (Elt F) fo) (arg8.view.read (Elt F) fs)⌝)

theorem enc_trip (hc : ∀ v : F .f32, (code v).toNat < 16) (fx : Buf (Elt F) (arg4.view.loc (tl d L))) (v2 c0 c1 : BitVec 32)
    (t3 : Fin k0_t3_loop.trips) (t : Fin k0_t4_loop.trips) :
    encInv (F := F) d L arg4 arg6 arg8 fx t.val
      ⊢ wp frame (wpE (defs₀ (F := F)) 𝒱₀ (tl d L) none) Set.univ
          (k0_t4_body L arg2 harg2 arg3 harg3 arg4 harg4 arg5 harg5 arg6 harg6 arg7 harg7 arg8 harg8 arg9 harg9 arg10 arg11 arg12 arg13
            v2 (iota .scVector S16 32 [0] iota_S16_d0_w32_scVector) (k0_pay4 (F := F)) c0 c1 t3 t ())
          fun _ => encInv (F := F) d L arg4 arg6 arg8 fx (t.val + 1) := by
  unfold encInv
  iintro ⟨Hx, %fo, %fs, Ho, Hs, %hE⟩
  unfold k0_t4_body
  sl_exec
  have hseg : enc_trip.sl.v65 t = segW t := rfl
  have hlane : enc_trip.sl.v69 t = laneW t := rfl
  have ht : t.val < 128 := t.isLt
  have hemb : ∀ (k : ℕ) (hk : k < 16) (p : S2048.Idx), (p 0).val = 16 * t.val + k →
      (Rect.unit (s := S2048) (k0_off4 t) S16.size (k0_off4_inb t)).emb (lane k hk) = p := fun k hk p hp =>
    Rect.emb_eq_of_coords _ _ _ fun a => by
      match a with
      | 0 =>
        show (p 0).val = k0_off4 t 0 + 1 * k
        rw [k0_off4_eq]; show _ = 16 * t.val + 1 * k; omega
  -- the chunk's sixteen codes
  have hnew : ∀ (k : ℕ) (hk : k < 16) (p : S2048.Idx), (p 0).val = 16 * t.val + k →
      enc_trip.sl.v86 (F := F) d L arg4 fx t (lane k hk) = code (arg4.view.read (Elt F) fx p) := by
    intro k hk p hp
    rw [← hemb k hk p hp]; rfl
  have hread : ∀ (k : ℕ) (hk : k < 16), ∃ p : S2048.Idx, (p 0).val = 16 * t.val + k := fun k hk =>
    ⟨fun a => match a with | 0 => ⟨16 * t.val + k, by show _ < 2048; omega⟩, rfl⟩
  have hchk : ∀ ix : IVec S16 32, (∀ (k : ℕ) (hk : k < 16), (ix (lane k hk)).toNat < 16) →
      ∀ a x, ((![ix, segW t, laneW t] : Fin 3 → IVec S16 32) a x).toNat < S16x16x128.size a := by
    intro ix hix a x
    have hx : (x 0).val < 16 := (x 0).isLt
    match a with
    | 0 => rw [show x = lane (x 0).val hx from lane_ext _ _ rfl]; exact hix _ hx
    | 1 => show (segW t x).toNat < 16; rw [segW_eq]; omega
    | 2 => show (laneW t x).toNat < 128; rw [laneW_eq]; omega
  have h2 := hchk (enc_trip.sl.v86 (F := F) d L arg4 fx t) (fun k hk => by
    obtain ⟨p, hp⟩ := hread k hk; rw [hnew k hk p hp]; exact hc _)
  rw [wp_assume_of _ _ _ _ (P := k0_chk2 (enc_trip.sl.v65 t) (enc_trip.sl.v69 t) (enc_trip.sl.v86 d L arg4 fx t)) h2]
  sl_exec
  -- the sixteen states
  have hold : ∀ (k : ℕ) (hk : k < 16) (p : S2048.Idx), (p 0).val = 16 * t.val + k →
      View.readAt (Elt F) arg8.view (Rect.unit (s := S2048) (k0_off4 t) S16.size (k0_off4_inb t)).toLoadRect fs (lane k hk)
        = arg8.view.read (Elt F) fs p := by
    intro k hk p hp
    rw [← hemb k hk p hp]; rfl
  generalize hov : View.readAt (Elt F) arg8.view (Rect.unit (s := S2048) (k0_off4 t) S16.size (k0_off4_inb t)).toLoadRect fs = old at hold
  have h1 := hchk old (fun k hk => by
    obtain ⟨p, hp⟩ := hread k hk; rw [hold k hk p hp]; exact hE.time hc p)
  rw [wp_assume_of _ _ _ _ (P := k0_chk1 (enc_trip.sl.v65 t) (enc_trip.sl.v69 t) old) h1]
  iapply (wp_scatterWhole harg6) $$ Ho
  iintro %fo1 %e1 Ho
  iapply (wp_scatterWhole harg6) $$ Ho
  iintro %fo2 %e2 Ho
  sl_exec
  sl_step
  iframe Hx
  iexists fo2, _
  iframe Ho Hs
  ipureintro
  rw [e2, View.writes_singleton]
  rw [e1]
  refine hE.step t (enc_trip.sl.v86 (F := F) d L arg4 fx t) old hnew hold h1 h2 ?_ ?_
  · intro k hk p hp
    exact View.read_writes_cons_hit_of_coords arg8.view fs (Rect.unit (s := S2048) (k0_off5 t) S16.size (k0_off5_inb t)) _ [] (lane k hk) p fun a => by
      match a with
      | 0 =>
        show (p 0).val = k0_off5 t 0 + 1 * k
        rw [k0_off5_eq]; show _ = 16 * t.val + 1 * k; omega
  · intro p hp
    exact View.read_writes_cons_miss_of_axis arg8.view fs ⟨Rect.unit (s := S2048) (k0_off5 t) S16.size (k0_off5_inb t), _⟩ [] p 0 (16 * t.val) 16
      (by show k0_off5 t 0 = _; rw [k0_off5_eq]; rfl) rfl rfl hp

/-- The pass of slot zero. -/
theorem enc_loop4 (hc : ∀ v : F .f32, (code v).toNat < 16) (fx : Buf (Elt F) (arg4.view.loc (tl d L))) (v2 c0 c1 : BitVec 32)
    (t3 : Fin k0_t3_loop.trips) :
    encInv (F := F) d L arg4 arg6 arg8 fx 0
      ⊢ wp frame (wpE (defs₀ (F := F)) 𝒱₀ (tl d L) none) Set.univ
          (Scf.Loop.for k0_t4_loop k0_t4_ok ⟨⟩
            (k0_t4_body L arg2 harg2 arg3 harg3 arg4 harg4 arg5 harg5 arg6 harg6 arg7 harg7 arg8 harg8 arg9 harg9 arg10 arg11 arg12 arg13
              v2 (iota .scVector S16 32 [0] iota_S16_d0_w32_scVector) (k0_pay4 (F := F)) c0 c1 t3))
          fun _ => encInv (F := F) d L arg4 arg6 arg8 fx 128 := by
  iintro H
  sl_for (fun n (_ : Unit) => encInv (F := F) d L arg4 arg6 arg8 fx n) $$ [H]
  case region =>
    intro k _
    exact enc_trip d L arg2 harg2 arg3 harg3 arg4 harg4 arg5 harg5 arg6 harg6 arg7 harg7 arg8 harg8 arg9 harg9 arg10 arg11 arg12 arg13 hc fx v2 c0 c1 t3 k
  isplitl [H]; · iexact H
  iintro %_ H
  iexact H

/-- The pass of slot one: the same pass on the other buffers. -/
theorem enc_loop5 (hc : ∀ v : F .f32, (code v).toNat < 16) (fx : Buf (Elt F) (arg5.view.loc (tl d L))) (t3 : Fin k0_t3_loop.trips) :
    encInv (F := F) d L arg5 arg7 arg9 fx 0
      ⊢ wp frame (wpE (defs₀ (F := F)) 𝒱₀ (tl d L) none) Set.univ
          (Scf.Loop.for k0_t5_loop k0_t5_ok ⟨⟩
            (k0_t5_body L arg2 harg2 arg3 harg3 arg4 harg4 arg5 harg5 arg6 harg6 arg7 harg7 arg8 harg8 arg9 harg9 arg10 arg11 arg12 arg13))
          fun _ => encInv (F := F) d L arg5 arg7 arg9 fx 128 :=
  enc_loop4 d L arg2 harg2 arg3 harg3 arg5 harg5 arg4 harg4 arg7 harg7 arg6 harg6 arg9 harg9 arg8 harg8 arg10 arg11 arg12 arg13 hc fx
    0#32 0#32 0#32 t3

end Cert.Proof.Spike

end
-- ==== Proof.Clear.lean ====
/-
  The kernel's two clearing loops: zeros over both output blocks, then over both state buffers, so that the encoder's
  first pass starts clean.
-/
module

public import proofs.«01_k».proof.Proof.Base
public import proofs.«01_k».proof.Proof.Encode
public import Idealize.ShloMosaic.Lib.Writes
public import Idealize.ShloMosaic.Lib.WholeRead
public import Idealize.ShloMosaic.Lib.WordExact

@[expose] public section

noncomputable section

namespace Cert.Proof.Spike

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Where trip `t` of the first clearing loop stores. -/
theorem k0_off1_eq : ∀ t : Fin k0_t1_loop.trips, k0_off1 t = ![t.val / 128, (t.val / 8) % 16, 16 * (t.val % 8)] := by decide +kernel
instance closedOff_k0_off1 (t : Fin k0_t1_loop.trips) : ClosedOff (k0_off1 t) := ⟨![t.val / 128, (t.val / 8) % 16, 16 * (t.val % 8)], k0_off1_eq t⟩

/-- The row-major position of a place of an output block. -/
def rowPos (y : S16x16x128.Idx) : ℕ := 2048 * (y 0).val + 128 * (y 1).val + (y 2).val

/-- A block whose first `n` sixteens are zero. -/
def Zeroed (n : ℕ) (ob : Vec F S16x16x128 .f32) : Prop := ∀ y, rowPos y < 16 * n → ob y = zero

/-- A state whose first `n` sixteens are zero. -/
def Reset (n : ℕ) (st : IVec S2048 32) : Prop := ∀ p : S2048.Idx, (p 0).val < 16 * n → st p = 0#32

theorem clean_of_zeroed {ob : Vec F S16x16x128 .f32} {st : IVec S2048 32} (ho : Zeroed 2048 ob) (hs : Reset 128 st) : Clean ob st := by
  intro y
  have h0 : (y 0).val < 16 := (y 0).isLt
  have h1 : (y 1).val < 16 := (y 1).isLt
  have h2 : (y 2).val < 128 := (y 2).isLt
  refine ⟨?_, fun _ => ho y (by unfold rowPos; omega)⟩
  rw [hs (flat y) (by show flatPos y < _; exact flatPos_lt y)]; decide

/-- A store of zeros at trip `t` extends the zeroed part. -/
theorem Zeroed.step {arg : Memref sig .scVector .vmem S16x16x128 .f32} {f : arg.view.ty.Contents (Elt F)} (t : Fin k0_t1_loop.trips)
    (h : Zeroed t.val (arg.view.read (Elt F) f)) {w : S1x1x16.Idx → F .f32} (hw : ∀ x, w x = zero) :
    Zeroed (t.val + 1) (arg.view.read (Elt F) (arg.view.writes (Elt F) f
      [⟨Rect.unit (s := S16x16x128) (k0_off1 t) S1x1x16.size (k0_off1_inb t), w⟩])) := by
  intro y hy
  have ht : t.val < 2048 := t.isLt
  have h1 : (y 1).val < 16 := (y 1).isLt
  have h2 : (y 2).val < 128 := (y 2).isLt
  have e0 : k0_off1 t 0 = t.val / 128 := by rw [k0_off1_eq]; rfl
  have e1 : k0_off1 t 1 = (t.val / 8) % 16 := by rw [k0_off1_eq]; rfl
  have e2 : k0_off1 t 2 = 16 * (t.val % 8) := by rw [k0_off1_eq]; rfl
  unfold rowPos at hy
  by_cases hm : ∀ a, k0_off1 t a ≤ (y a).val
      ∧ (y a).val < k0_off1 t a + S1x1x16.size a
  · have m0 : k0_off1 t 0 ≤ (y 0).val ∧ (y 0).val < k0_off1 t 0 + 1 := hm 0
    have m1 : k0_off1 t 1 ≤ (y 1).val ∧ (y 1).val < k0_off1 t 1 + 1 := hm 1
    have m2 : k0_off1 t 2 ≤ (y 2).val ∧ (y 2).val < k0_off1 t 2 + 16 := hm 2
    rw [e0] at m0; rw [e1] at m1; rw [e2] at m2
    let x : S1x1x16.Idx := fun a => match a with
      | 0 => ⟨0, by decide⟩
      | 1 => ⟨0, by decide⟩
      | 2 => ⟨(y 2).val - 16 * (t.val % 8), by show _ < 16; omega⟩
    exact (View.read_writes_cons_hit_of_coords arg.view f (Rect.unit (s := S16x16x128) (k0_off1 t) S1x1x16.size (k0_off1_inb t)) w [] x y
      fun a => by
        match a with
        | 0 => show (y 0).val = k0_off1 t 0 + 1 * 0; rw [e0]; omega
        | 1 => show (y 1).val = k0_off1 t 1 + 1 * 0; rw [e1]; omega
        | 2 => show (y 2).val = k0_off1 t 2 + 1 * ((y 2).val - 16 * (t.val % 8)); rw [e2]; omega).trans (hw x)
  · rw [View.read_writes_cons_miss arg.view f ⟨Rect.unit (s := S16x16x128) (k0_off1 t) S1x1x16.size (k0_off1_inb t), w⟩ [] y
      (fun hc => hm ((Rect.mem_set_unit (inb := k0_off1_inb t)).mp hc))]
    refine h y ?_
    unfold rowPos
    by_contra hge
    refine hm fun a => ?_
    match a with
    | 0 => show k0_off1 t 0 ≤ (y 0).val ∧ (y 0).val < k0_off1 t 0 + 1; rw [e0]; omega
    | 1 => show k0_off1 t 1 ≤ (y 1).val ∧ (y 1).val < k0_off1 t 1 + 1; rw [e1]; omega
    | 2 => show k0_off1 t 2 ≤ (y 2).val ∧ (y 2).val < k0_off1 t 2 + 16; rw [e2]; omega

/-- A store of zero words at trip `t` extends the reset part. -/
theorem Reset.step {arg : Memref sig .scVector .vmem S2048 .i32} {f : arg.view.ty.Contents (Elt F)} (t : Fin k0_t2_loop.trips)
    (h : Reset t.val (arg.view.read (Elt F) f)) {w : S16.Idx → BitVec 32} (hw : ∀ x, w x = 0#32) :
    Reset (t.val + 1) (arg.view.read (Elt F) (arg.view.writes (Elt F) f
      [⟨Rect.unit (s := S2048) (k0_off2 t) S16.size (k0_off2_inb t), w⟩])) := by
  intro p hp
  have e0 : k0_off2 t 0 = 16 * t.val := by rw [k0_off2_eq]; rfl
  by_cases hl : (p 0).val < 16 * t.val
  · rw [View.read_writes_cons_miss_of_axis arg.view f ⟨Rect.unit (s := S2048) (k0_off2 t) S16.size (k0_off2_inb t), w⟩ [] p 0 (16 * t.val) 16
      e0 rfl rfl (.inl hl)]
    exact h p hl
  · exact (View.read_writes_cons_hit_of_coords arg.view f (Rect.unit (s := S2048) (k0_off2 t) S16.size (k0_off2_inb t)) w []
      (lane ((p 0).val - 16 * t.val) (by omega)) p fun a => by
        match a with
        | 0 => show (p 0).val = k0_off2 t 0 + 1 * ((p 0).val - 16 * t.val); rw [e0]; omega).trans (hw _)

variable (d : Dev nD) (L : grid0.Coords)
  (arg2 : Memref sig .scVector .hbm S4194304 .f32) (harg2 : arg2.IsWhole) (arg3 : Memref sig .scVector .hbm S32x16384x128 .f32) (harg3 : arg3.IsWhole)
  (arg4 : Memref sig .scVector .vmem S2048 .f32) (harg4 : arg4.IsWhole) (arg5 : Memref sig .scVector .vmem S2048 .f32) (harg5 : arg5.IsWhole)
  (arg6 : Memref sig .scVector .vmem S16x16x128 .f32) (harg6 : arg6.IsWhole) (arg7 : Memref sig .scVector .vmem S16x16x128 .f32) (harg7 : arg7.IsWhole)
  (arg8 : Memref sig .scVector .vmem S2048 .i32) (harg8 : arg8.IsWhole) (arg9 : Memref sig .scVector .vmem S2048 .i32) (harg9 : arg9.IsWhole)
  (arg10 arg11 arg12 arg13 : DmaSems sig S_)

/-- The first clearing loop: both blocks zero. -/
theorem zero_loop1 (f6 : Buf (Elt F) (arg6.view.loc (tl d L))) (f7 : Buf (Elt F) (arg7.view.loc (tl d L))) :
    (iprop((arg6.view.loc (tl d L) ↦{fullShare} f6) ∗ (arg7.view.loc (tl d L) ↦{fullShare} f7)) : sProp 𝕄)
      ⊢ wp frame (wpE (defs₀ (F := F)) 𝒱₀ (tl d L) none) Set.univ
          (Scf.Loop.for k0_t1_loop k0_t1_ok ⟨⟩
            (k0_t1_body L arg2 harg2 arg3 harg3 arg4 harg4 arg5 harg5 arg6 harg6 arg7 harg7 arg8 harg8 arg9 harg9 arg10 arg11 arg12 arg13))
          fun _ => iprop(∃ (g6 : Buf (Elt F) (arg6.view.loc (tl d L))) (g7 : Buf (Elt F) (arg7.view.loc (tl d L))),
            (arg6.view.loc (tl d L) ↦{fullShare} g6) ∗ (arg7.view.loc (tl d L) ↦{fullShare} g7)
            ∗ ⌜Zeroed 2048 (arg6.view.read (Elt F) g6) ∧ Zeroed 2048 (arg7.view.read (Elt F) g7)⌝) := by
  iintro ⟨H6, H7⟩
  sl_for (fun n (_ : Unit) => iprop(∃ (g6 : Buf (Elt F) (arg6.view.loc (tl d L))) (g7 : Buf (Elt F) (arg7.view.loc (tl d L))),
            (arg6.view.loc (tl d L) ↦{fullShare} g6) ∗ (arg7.view.loc (tl d L) ↦{fullShare} g7)
            ∗ ⌜Zeroed n (arg6.view.read (Elt F) g6) ∧ Zeroed n (arg7.view.read (Elt F) g7)⌝)) $$ [H6 H7]
  case region =>
    intro k _
    iintro ⟨%g6, %g7, H6, H7, %h⟩
    sl_exec
    sl_step
    iexists _, _
    iframe H6 H7
    ipureintro
    exact ⟨h.1.step k fun _ => rfl, h.2.step k fun _ => rfl⟩
  isplitl [H6 H7]
  · iexists f6, f7
    iframe H6 H7
    ipureintro
    exact ⟨fun _ h => absurd h (Nat.not_lt_zero _), fun _ h => absurd h (Nat.not_lt_zero _)⟩
  iintro %_ H
  iexact H

/-- The second clearing loop: both states zero. -/
theorem zero_loop2 (f8 : Buf (Elt F) (arg8.view.loc (tl d L))) (f9 : Buf (Elt F) (arg9.view.loc (tl d L))) :
    (iprop((arg8.view.loc (tl d L) ↦{fullShare} f8) ∗ (arg9.view.loc (tl d L) ↦{fullShare} f9)) : sProp 𝕄)
      ⊢ wp frame (wpE (defs₀ (F := F)) 𝒱₀ (tl d L) none) Set.univ
          (Scf.Loop.for k0_t2_loop k0_t2_ok ⟨⟩
            (k0_t2_body L arg2 harg2 arg3 harg3 arg4 harg4 arg5 harg5 arg6 harg6 arg7 harg7 arg8 harg8 arg9 harg9 arg10 arg11 arg12 arg13))
          fun _ => iprop(∃ (g8 : Buf (Elt F) (arg8.view.loc (tl d L))) (g9 : Buf (Elt F) (arg9.view.loc (tl d L))),
            (arg8.view.loc (tl d L) ↦{fullShare} g8) ∗ (arg9.view.loc (tl d L) ↦{fullShare} g9)
            ∗ ⌜Reset 128 (arg8.view.read (Elt F) g8) ∧ Reset 128 (arg9.view.read (Elt F) g9)⌝) := by
  iintro ⟨H8, H9⟩
  sl_for (fun n (_ : Unit) => iprop(∃ (g8 : Buf (Elt F) (arg8.view.loc (tl d L))) (g9 : Buf (Elt F) (arg9.view.loc (tl d L))),
            (arg8.view.loc (tl d L) ↦{fullShare} g8) ∗ (arg9.view.loc (tl d L) ↦{fullShare} g9)
            ∗ ⌜Reset n (arg8.view.read (Elt F) g8) ∧ Reset n (arg9.view.read (Elt F) g9)⌝)) $$ [H8 H9]
  case region =>
    intro k _
    iintro ⟨%g8, %g9, H8, H9, %h⟩
    sl_exec
    sl_step
    iexists _, _
    iframe H8 H9
    ipureintro
    exact ⟨h.1.step k fun _ => rfl, h.2.step k fun _ => rfl⟩
  isplitl [H8 H9]
  · iexists f8, f9
    iframe H8 H9
    ipureintro
    exact ⟨fun _ h => absurd h (Nat.not_lt_zero _), fun _ h => absurd h (Nat.not_lt_zero _)⟩
  iintro %_ H
  iexact H

end Cert.Proof.Spike

end
-- ==== Proof.Copy.lean ====
/-
  A tile's copies: the chunks of the flat input and of the output, what is in flight between a start and its wait, and
  one rule for each kind of start and wait.
-/
module

public import proofs.«01_k».proof.Proof.Base
public import proofs.«01_k».proof.Proof.Encode
public import Idealize.ShloMosaic.Lib.Writes
public import Idealize.ShloMosaic.Lib.WholeRead
public import Idealize.ShloMosaic.Lib.WordExact

@[expose] public section

noncomputable section

namespace Cert.Proof.Spike

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Chunks -/

abbrev inM : Memref sig .scVector .hbm S4194304 .f32 := Memref.whole main_v2_scv
abbrev outM : Memref sig .scVector .hbm S32x16384x128 .f32 := Memref.whole main_v3_scv

/-- The chunk a place of the flat input lies in. -/
def inChunk (p : S4194304.Idx) : ℕ := (p 0).val / 2048

/-- The chunk a place of the output belongs to. -/
def outChunk (y : S32x16384x128.Idx) : ℕ := 1024 * ((y 0).val / 16) + (y 1).val / 16

/-- The input's places in chunks `a` up to `b`. -/
def inCut (a b : ℕ) : Finset S4194304.Idx := Finset.univ.filter fun p => a ≤ inChunk p ∧ inChunk p < b

/-- The output's places in chunks `a` up to `b`. -/
def outCut (a b : ℕ) : Finset S32x16384x128.Idx := Finset.univ.filter fun p => a ≤ outChunk p ∧ outChunk p < b

theorem mem_inCut {a b : ℕ} {p : S4194304.Idx} : p ∈ inCut a b ↔ a ≤ inChunk p ∧ inChunk p < b := by simp [inCut]
theorem mem_outCut {a b : ℕ} {p : S32x16384x128.Idx} : p ∈ outCut a b ↔ a ≤ outChunk p ∧ outChunk p < b := by simp [outCut]

theorem inCut_empty {a b : ℕ} (h : b ≤ a) : inCut a b = ∅ := by
  ext p; rw [mem_inCut]; simp only [Finset.notMem_empty, iff_false]; omega
theorem outCut_empty {a b : ℕ} (h : b ≤ a) : outCut a b = ∅ := by
  ext p; rw [mem_outCut]; simp only [Finset.notMem_empty, iff_false]; omega

theorem inCut_union {a b c : ℕ} (h : a ≤ b) (h' : b ≤ c) : inCut a c = inCut a b ∪ inCut b c := by
  ext p; rw [Finset.mem_union, mem_inCut, mem_inCut, mem_inCut]; omega
theorem outCut_union {a b c : ℕ} (h : a ≤ b) (h' : b ≤ c) : outCut a c = outCut a b ∪ outCut b c := by
  ext p; rw [Finset.mem_union, mem_outCut, mem_outCut, mem_outCut]; omega

theorem inCut_disjoint (a b c : ℕ) : Disjoint (inCut a b) (inCut b c) := by
  rw [Finset.disjoint_left]; intro p; rw [mem_inCut, mem_inCut]; omega
theorem outCut_disjoint (a b c : ℕ) : Disjoint (outCut a b) (outCut b c) := by
  rw [Finset.disjoint_left]; intro p; rw [mem_outCut, mem_outCut]; omega

/-- The place of the flat input at row-major position `k`. -/
def inAt (k : ℕ) (hk : k < 4194304) : S4194304.Idx := fun | 0 => ⟨k, hk⟩

/-- Chunk `n` of the flat input. -/
def chunk (fin : S4194304.Idx → F .f32) (n : ℕ) : S2048.Idx → F .f32 := fun x =>
  if h : 2048 * n + (x 0).val < 4194304 then fin (inAt (2048 * n + (x 0).val) h) else fin (inAt 0 (by decide))

/-- The output the tiles together write: each place one exactly where its code is its time. -/
def outOf (fin : S4194304.Idx → F .f32) : S32x16384x128.Idx → F .f32 := fun y =>
  spikes (chunk fin (outChunk y)) (fun
    | 0 => ⟨(y 0).val % 16, Nat.mod_lt _ (by decide)⟩
    | 1 => ⟨(y 1).val % 16, Nat.mod_lt _ (by decide)⟩
    | 2 => ⟨(y 2).val, (y 2).isLt⟩)

theorem inSet {n : ℕ} (hn : n < 2048) {off : Fin 1 → ℕ} {inb} (ho : off = ![2048 * n]) :
    (Rect.unit (s := S4194304) off S2048.size inb).set = inCut n (n + 1) := by
  subst ho
  ext p
  rw [Rect.mem_set_unit, mem_inCut]
  unfold inChunk
  constructor
  · intro h
    have h0 : 2048 * n ≤ (p 0).val ∧ (p 0).val < 2048 * n + 2048 := h 0
    omega
  · intro h a
    match a with
    | 0 => show 2048 * n ≤ (p 0).val ∧ (p 0).val < 2048 * n + 2048; omega

/-- Where chunk `n`'s block of the output starts. -/
def outOff (n : ℕ) : Fin 3 → ℕ := ![16 * (n / 1024), 16 * (n % 1024), 0]

theorem outSet {n : ℕ} (hn : n < 2048) {off : Fin 3 → ℕ} {inb} (ho : off = outOff n) :
    (Rect.unit (s := S32x16384x128) off S16x16x128.size inb).set = outCut n (n + 1) := by
  subst ho
  ext p
  rw [Rect.mem_set_unit, mem_outCut]
  have b1 : (p 1).val < 16384 := (p 1).isLt
  have b2 : (p 2).val < 128 := (p 2).isLt
  unfold outChunk
  constructor
  · intro h
    have h0 : 16 * (n / 1024) ≤ (p 0).val ∧ (p 0).val < 16 * (n / 1024) + 16 := h 0
    have h1 : 16 * (n % 1024) ≤ (p 1).val ∧ (p 1).val < 16 * (n % 1024) + 16 := h 1
    omega
  · intro h a
    match a with
    | 0 => show 16 * (n / 1024) ≤ (p 0).val ∧ (p 0).val < 16 * (n / 1024) + 16; omega
    | 1 => show 16 * (n % 1024) ≤ (p 1).val ∧ (p 1).val < 16 * (n % 1024) + 16; omega
    | 2 => show 0 ≤ (p 2).val ∧ (p 2).val < 0 + 128; omega

/-- A block of spikes, placed in the output, is the output's. -/
theorem outOf_emb (fin : S4194304.Idx → F .f32) {n : ℕ} (hn : n < 2048) {off : Fin 3 → ℕ} {inb} (ho : off = outOff n) (x : S16x16x128.Idx) :
    outOf fin ((Rect.unit (s := S32x16384x128) off S16x16x128.size inb).emb x) = spikes (chunk fin n) x := by
  subst ho
  have b0 : (x 0).val < 16 := (x 0).isLt
  have b1 : (x 1).val < 16 := (x 1).isLt
  have e0 : (((Rect.unit (s := S32x16384x128) (outOff n) S16x16x128.size inb).emb x) 0).val = 16 * (n / 1024) + 1 * (x 0).val := rfl
  have e1 : (((Rect.unit (s := S32x16384x128) (outOff n) S16x16x128.size inb).emb x) 1).val = 16 * (n % 1024) + 1 * (x 1).val := rfl
  have e2 : (((Rect.unit (s := S32x16384x128) (outOff n) S16x16x128.size inb).emb x) 2).val = 0 + 1 * (x 2).val := rfl
  have hc : outChunk ((Rect.unit (s := S32x16384x128) (outOff n) S16x16x128.size inb).emb x) = n := by
    unfold outChunk; rw [e0, e1]; omega
  unfold outOf
  rw [hc]
  refine congrArg (spikes (chunk fin n)) (funext fun a => ?_)
  match a with
  | 0 => refine Fin.ext ?_; show (((Rect.unit (s := S32x16384x128) (outOff n) S16x16x128.size inb).emb x) 0).val % 16 = (x 0).val; rw [e0]; omega
  | 1 => refine Fin.ext ?_; show (((Rect.unit (s := S32x16384x128) (outOff n) S16x16x128.size inb).emb x) 1).val % 16 = (x 1).val; rw [e1]; omega
  | 2 => refine Fin.ext ?_; show (((Rect.unit (s := S32x16384x128) (outOff n) S16x16x128.size inb).emb x) 2).val = (x 2).val; rw [e2]; omega

/-! ## The rules -/

variable (d : Dev nD) (L : grid0.Coords)

abbrev inLoc : Loc nD τ sig := inM.view.loc (tl d L)
abbrev outLoc : Loc nD τ sig := outM.view.loc (tl d L)

/-- What the tile owes, its waits so far recorded. -/
def Owe (O : CellTallies nD τ sig (HIx 1)) (W : Waits sig (HIx 1)) : sProp 𝕄 :=
  iprop(∃ W', ⌜∀ p ∈ W', p ∈ W ∨ p.2 = none⌝ ∗ owes (tl d L) O W')

/-- Chunk `n` on its way into buffer `xb`. -/
def InFly (fin : Buf (Elt F) (inLoc d L)) (n : ℕ) (xb : Memref sig .scVector .vmem S2048 .f32) (sm : DmaSem sig) : sProp 𝕄 :=
  Transfers.Flight countersEmb (tl d L) (SemLoc.dma sm) (default : HIx 1) xb.view.dmaCredit
    iprop((∃ fx : Buf (Elt F) (xb.view.loc (tl d L)), (xb.view.loc (tl d L) ↦{fullShare} fx) ∗ ⌜xb.view.read (Elt F) fx = chunk fin n⌝)
      ∗ (inLoc d L ↦[inCut n (n + 1)]{fullShare} fin))

/-- A block's credit. -/
abbrev outCredit : ℕ := ((outM).slice (Rect.unit (s := S32x16384x128) ![0, 0, 0] S16x16x128.size inb_S32x16384x128_S16x16x128_0_0_0) (fun _ => rfl)).view.dmaCredit

/-- Chunk `n`'s block on its way out of buffer `ob`, which holds `fo`. -/
def OutFly (fin : Buf (Elt F) (inLoc d L)) (n : ℕ) (ob : Memref sig .scVector .vmem S16x16x128 .f32) (fo : Buf (Elt F) (ob.view.loc (tl d L)))
    (sm : DmaSem sig) : sProp 𝕄 :=
  Transfers.Flight countersEmb (tl d L) (SemLoc.dma sm) (default : HIx 1) outCredit
    iprop((outLoc d L ↦[outCut n (n + 1)]{fullShare} outOf fin) ∗ (ob.view.loc (tl d L) ↦{fullShare} fo))

/-- Starting chunk `n`'s copy in. -/
theorem wp_inStart {α : Type} {Q : α → sProp 𝕄} (fin : Buf (Elt F) (inLoc d L)) {n : ℕ} (hn : n < 2048) {off : Fin 1 → ℕ} {inb} (ho : off = ![2048 * n])
    (xb : Memref sig .scVector .vmem S2048 .f32) (hxb : xb.IsWhole) (fx : Buf (Elt F) (xb.view.loc (tl d L))) (sm : DmaSem sig)
    {hsrc hdst hsem} {k : PUnit → Prog (TpuEff nD τ sig (Elt F) Λ₀ (tl d L).2) α} :
    (iprop((inLoc d L ↦[inCut n (n + 1)]{fullShare} fin) ∗ (xb.view.loc (tl d L) ↦{fullShare} fx) ∗ semVal (tl d L, .dma sm) 0) : sProp 𝕄)
      ⊢ iprop((InFly d L fin n xb sm -∗ wp frame (wpE (defs₀ (F := F)) 𝒱₀ (tl d L) none) Set.univ (k ⟨⟩) Q)
          -∗ wp frame (wpE (defs₀ (F := F)) 𝒱₀ (tl d L) none) Set.univ
              (.op (.enqueueDma (inM.slice (Rect.unit (s := S4194304) off S2048.size inb) (fun _ => rfl)) (.here xb) (.dma sm) hsrc hdst hsem) k) Q) := by
  have hset : (inM.slice (Rect.unit (s := S4194304) off S2048.size inb) (fun _ => rfl)).view.set = inCut n (n + 1) :=
    (View.set_slice_whole _ _).trans (inSet hn ho)
  have hread : (inM.slice (Rect.unit (s := S4194304) off S2048.size inb) (fun _ => rfl)).view.read (Elt F) fin = chunk fin n := by
    subst ho
    funext x
    have hx : (x 0).val < 2048 := (x 0).isLt
    unfold chunk
    rw [dif_pos (by omega)]
    refine congrArg fin (funext fun a => ?_)
    match a with
    | 0 => refine Fin.ext ?_; show 2048 * n + 1 * (x 0).val = _; rw [Nat.one_mul]; rfl
  have h := Transfers.wp_dmaLocal (Name := ℕ) (defs := defs₀ (F := F)) (U := UU) (countersEmb) 𝒱₀ (tl d L) none
    (src := inM.slice (Rect.unit (s := S4194304) off S2048.size inb) (fun _ => rfl)) (via := .same) (dst := xb) (sm := .dma sm)
    (hsrc := hsrc) (hdst := hdst) (hsem := hsem) (k := k) (Q := Q) (q := fullShare) (fs := fin) (Sd := Finset.univ) (fd := fx)
    (default : HIx 1) xb.view.dmaCredit rfl (View.amount_pos xb.view (.dma sm) (show 0 < S2048.numel by decide)) (Finset.subset_univ _)
  rw [hset] at h
  refine h.trans ?_
  iintro H Hk
  iapply H
  iintro Hf
  iapply Hk
  unfold InFly
  iapply (Transfers.Flight_mono countersEmb (tl d L) ?_) $$ Hf
  iintro ⟨Hx, Hi⟩
  isplitl [Hx]
  · iexists _
    isplitl [Hx]; · iexact Hx
    ipureintro
    rw [View.read_write_univ]
    exact hread
  · iexact Hi

/-- Waiting for chunk `n`. -/
theorem wp_inWait {α : Type} {Q : α → sProp 𝕄} (fin : Buf (Elt F) (inLoc d L)) {n : ℕ} (xb : Memref sig .scVector .vmem S2048 .f32) (sm : DmaSem sig)
    {O : CellTallies nD τ sig (HIx 1)} {W : Waits sig (HIx 1)}
    {sp' : Space} {s' : Shape} {e' : EltTy} {srcw : Memref sig .scVector sp' s' e'} {hsrc hdst}
    {k : PUnit → Prog (TpuEff nD τ sig (Elt F) Λ₀ (tl d L).2) α} :
    (iprop(Transfers.MayWaits (tl d L) (default : HIx 1) O ∗ InFly d L fin n xb sm ∗ Owe d L O W) : sProp 𝕄)
      ⊢ iprop((iprop((∃ fx : Buf (Elt F) (xb.view.loc (tl d L)), (xb.view.loc (tl d L) ↦{fullShare} fx) ∗ ⌜xb.view.read (Elt F) fx = chunk fin n⌝)
            ∗ (inLoc d L ↦[inCut n (n + 1)]{fullShare} fin) ∗ semVal (tl d L, .dma sm) 0 ∗ Owe d L O W)
              -∗ wp frame (wpE (defs₀ (F := F)) 𝒱₀ (tl d L) none) Set.univ (k ⟨⟩) Q)
          -∗ wp frame (wpE (defs₀ (F := F)) 𝒱₀ (tl d L) none) Set.univ (.op (.waitDma2 sm srcw xb hsrc hdst) k) Q) := by
  unfold InFly Owe
  iintro ⟨#Hmw, Hf, ⟨%W', %hW, HO⟩⟩ Hk
  iapply (Transfers.wp_waitLocalO countersEmb 𝒱₀ (tl d L) none (default : HIx 1) (rfl : xb.view.dmaCredit = _)) $$ [Hf HO]
  · isplitl [Hf]; · iexact Hf
    isplitl [HO]; · iexact HO
    iapply (Transfers.MayWaits.elim (SemLoc.dma sm)) $$ Hmw
  iintro ⟨⟨Hx, Hi⟩, Hv, HO⟩
  iapply Hk
  isplitl [Hx]; · iexact Hx
  isplitl [Hi]; · iexact Hi
  isplitl [Hv]; · iexact Hv
  iexists _
  isplitr; swap; · iexact HO
  ipureintro
  intro p hp
  rcases Finset.mem_insert.mp hp with rfl | h
  · exact .inr rfl
  · exact hW p h

/-- Starting chunk `n`'s block out. -/
theorem wp_outStart {α : Type} {Q : α → sProp 𝕄} (fin : Buf (Elt F) (inLoc d L)) {n : ℕ} (hn : n < 2048) {off : Fin 3 → ℕ} {inb} (ho : off = outOff n)
    (ob : Memref sig .scVector .vmem S16x16x128 .f32) (hob : ob.IsWhole) (fo : Buf (Elt F) (ob.view.loc (tl d L)))
    (hfo : ob.view.read (Elt F) fo = spikes (chunk fin n)) (f₀ : Buf (Elt F) (outLoc d L)) (sm : DmaSem sig)
    {hsrc hdst hsem} {k : PUnit → Prog (TpuEff nD τ sig (Elt F) Λ₀ (tl d L).2) α} :
    (iprop((outLoc d L ↦[outCut n (n + 1)]{fullShare} f₀) ∗ (ob.view.loc (tl d L) ↦{fullShare} fo) ∗ semVal (tl d L, .dma sm) 0) : sProp 𝕄)
      ⊢ iprop((OutFly d L fin n ob fo sm -∗ wp frame (wpE (defs₀ (F := F)) 𝒱₀ (tl d L) none) Set.univ (k ⟨⟩) Q)
          -∗ wp frame (wpE (defs₀ (F := F)) 𝒱₀ (tl d L) none) Set.univ
              (.op (.enqueueDma ob (.here (outM.slice (Rect.unit (s := S32x16384x128) off S16x16x128.size inb) (fun _ => rfl))) (.dma sm) hsrc hdst hsem) k) Q) := by
  have hset : (outM.slice (Rect.unit (s := S32x16384x128) off S16x16x128.size inb) (fun _ => rfl)).view.set = outCut n (n + 1) :=
    (View.set_slice_whole _ _).trans (outSet hn ho)
  have h := Transfers.wp_dmaLocal (Name := ℕ) (defs := defs₀ (F := F)) (U := UU) (countersEmb) 𝒱₀ (tl d L) none
    (src := ob) (via := .same) (dst := outM.slice (Rect.unit (s := S32x16384x128) off S16x16x128.size inb) (fun _ => rfl)) (sm := .dma sm)
    (hsrc := hsrc) (hdst := hdst) (hsem := hsem) (k := k) (Q := Q) (q := fullShare) (fs := fo) (Sd := outCut n (n + 1)) (fd := f₀)
    (default : HIx 1) outCredit rfl (View.amount_pos (outM.slice (Rect.unit (s := S32x16384x128) off S16x16x128.size inb) (fun _ => rfl)).view (.dma sm) (show 0 < S16x16x128.numel by decide)) (by rw [hset])
  rw [hob.set_eq_univ] at h
  iintro ⟨Ho, Hb, Hv⟩ Hk
  iapply h $$ [Ho Hb Hv]
  · isplitl [Hb]; · iexact Hb
    isplitl [Ho]; · iexact Ho
    iexact Hv
  iintro Hf
  iapply Hk
  unfold OutFly
  iapply (Transfers.Flight_mono countersEmb (tl d L) ?_) $$ Hf
  rw [pointsTo_congr (g := outOf fin) fun y hy => ?_]
  rw [← hset] at hy
  obtain ⟨x, -, rfl⟩ := Finset.mem_map.mp hy
  refine (View.write_emb_of_mem _ _ (Finset.mem_univ x)).trans ?_
  refine Eq.trans ?_ (outOf_emb fin hn (inb := inb) ho x).symm
  rw [← hfo]
  rfl

/-- Waiting for chunk `n`'s block. -/
theorem wp_outWait {α : Type} {Q : α → sProp 𝕄} (fin : Buf (Elt F) (inLoc d L)) {n : ℕ} (ob : Memref sig .scVector .vmem S16x16x128 .f32)
    (fo : Buf (Elt F) (ob.view.loc (tl d L))) (sm : DmaSem sig)
    {O : CellTallies nD τ sig (HIx 1)} {W : Waits sig (HIx 1)}
    {sp' : Space} {s' : Shape} {e' : EltTy} {srcw : Memref sig .scVector sp' s' e'} {hsrc hdst}
    {k : PUnit → Prog (TpuEff nD τ sig (Elt F) Λ₀ (tl d L).2) α} :
    (iprop(Transfers.MayWaits (tl d L) (default : HIx 1) O ∗ OutFly d L fin n ob fo sm ∗ Owe d L O W) : sProp 𝕄)
      ⊢ iprop((iprop((outLoc d L ↦[outCut n (n + 1)]{fullShare} outOf fin) ∗ (ob.view.loc (tl d L) ↦{fullShare} fo)
            ∗ semVal (tl d L, .dma sm) 0 ∗ Owe d L O W)
              -∗ wp frame (wpE (defs₀ (F := F)) 𝒱₀ (tl d L) none) Set.univ (k ⟨⟩) Q)
          -∗ wp frame (wpE (defs₀ (F := F)) 𝒱₀ (tl d L) none) Set.univ (.op (.waitDma2 sm srcw
              (outM.slice (Rect.unit (s := S32x16384x128) ![0, 0, 0] S16x16x128.size inb_S32x16384x128_S16x16x128_0_0_0) (fun _ => rfl)) hsrc hdst) k) Q) := by
  unfold OutFly Owe
  iintro ⟨#Hmw, Hf, ⟨%W', %hW, HO⟩⟩ Hk
  iapply (Transfers.wp_waitLocalO countersEmb 𝒱₀ (tl d L) none (default : HIx 1) (rfl : outCredit = _)) $$ [Hf HO]
  · isplitl [Hf]; · iexact Hf
    isplitl [HO]; · iexact HO
    iapply (Transfers.MayWaits.elim (SemLoc.dma sm)) $$ Hmw
  iintro ⟨⟨Ho, Hb⟩, Hv, HO⟩
  iapply Hk
  isplitl [Ho]; · iexact Ho
  isplitl [Hb]; · iexact Hb
  isplitl [Hv]; · iexact Hv
  iexists _
  isplitr; swap; · iexact HO
  ipureintro
  intro p hp
  rcases Finset.mem_insert.mp hp with rfl | h
  · exact .inr rfl
  · exact hW p h

end Cert.Proof.Spike

end
-- ==== Proof.Trip.lean ====
/-
  One trip of a tile's pipeline: for each of the two slots, take the chunk in, reclaim the block, encode, start the next
  chunk in and the block out.
-/
module

public import proofs.«01_k».proof.Proof.Base
public import proofs.«01_k».proof.Proof.Encode
public import proofs.«01_k».proof.Proof.Copy
public import Idealize.ShloMosaic.Lib.Writes
public import Idealize.ShloMosaic.Lib.WholeRead
public import Idealize.ShloMosaic.Lib.WordExact

@[expose] public section

noncomputable section

namespace Cert.Proof.Spike

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem cond_past : ∀ t : Fin k0_t3_loop.trips,
    Scalar.cmpi .ne (Scalar.extui (Scalar.cmpi .sge (Scf.iv 0#32 1#32 t) 1#32) : BitVec 32) 0#32 = 1#1 ↔ 1 ≤ t.val := by decide +kernel
theorem cond_next0 : ∀ t : Fin k0_t3_loop.trips, k0_cond2 t = 1#1 ↔ t.val < 31 := by decide +kernel
theorem cond_next1 : ∀ t : Fin k0_t3_loop.trips, k0_cond4 t = 1#1 ↔ t.val < 31 := by decide +kernel

/-- The tile's first chunk. -/
def lo (L : grid0.Coords) : ℕ := 128 * (L 1).val + 64 * (L 0).val

theorem k0_off7_eq : ∀ (i : grid0.Coords) (t : Fin k0_t3_loop.trips) (r : Fin 2),
    k0_off7 i t (BitVec.ofNat 32 r.val) = outOff (lo i + 2 * t.val + r.val) := by decide +kernel

/-! ## Splitting and joining runs of chunks -/

theorem in_split (d : Dev nD) (L : grid0.Coords) (fin : Buf (Elt F) (inLoc d L)) {a b c : ℕ} (h : a ≤ b) (h' : b ≤ c) :
    (inLoc d L ↦[inCut a c]{fullShare} fin : sProp 𝕄)
      ⊣⊢ iprop((inLoc d L ↦[inCut a b]{fullShare} fin) ∗ (inLoc d L ↦[inCut b c]{fullShare} fin)) := by
  rw [inCut_union h h']; exact pointsTo_union (inCut_disjoint a b c)

theorem out_split (d : Dev nD) (L : grid0.Coords) (f : Buf (Elt F) (outLoc d L)) {a b c : ℕ} (h : a ≤ b) (h' : b ≤ c) :
    (outLoc d L ↦[outCut a c]{fullShare} f : sProp 𝕄)
      ⊣⊢ iprop((outLoc d L ↦[outCut a b]{fullShare} f) ∗ (outLoc d L ↦[outCut b c]{fullShare} f)) := by
  rw [outCut_union h h']; exact pointsTo_union (outCut_disjoint a b c)

/-! ## A slot -/

section Slot

variable (d : Dev nD) (L : grid0.Coords) (fin : Buf (Elt F) (inLoc d L)) (f₀ : Buf (Elt F) (outLoc d L))
  (O : CellTallies nD τ sig (HIx 1)) (W : Waits sig (HIx 1))
  (xb : Memref sig .scVector .vmem S2048 .f32) (ob : Memref sig .scVector .vmem S16x16x128 .f32) (st : Memref sig .scVector .vmem S2048 .i32)
  (smI smO : DmaSem sig)

/-- What every slot shares once `j` chunks are through: the input not yet started and that already read, the output not
    yet started and that already landed, and what the tile owes. -/
def Shared (j : ℕ) : sProp 𝕄 :=
  iprop((inLoc d L ↦[inCut (lo L + (j + 2)) (lo L + 64)]{fullShare} fin) ∗ (inLoc d L ↦[inCut (lo L) (lo L + j)]{fullShare} fin)
    ∗ (outLoc d L ↦[outCut (lo L + j) (lo L + 64)]{fullShare} f₀) ∗ (outLoc d L ↦[outCut (lo L) (lo L + j - 2)]{fullShare} outOf fin)
    ∗ Owe d L O W)

/-- A slot's input side before trip `k`: its next chunk on the way, or nothing more to come. -/
def SlotIn (k r : ℕ) : sProp 𝕄 :=
  if k < 32 then InFly d L fin (lo L + (2 * k + r)) xb smI
  else iprop((∃ fx : Buf (Elt F) (xb.view.loc (tl d L)), xb.view.loc (tl d L) ↦{fullShare} fx) ∗ semVal (tl d L, .dma smI) 0)

theorem slotIn_lt {k r : ℕ} (hk : k < 32) : (SlotIn d L fin xb smI k r : sProp 𝕄) = InFly d L fin (lo L + (2 * k + r)) xb smI := if_pos hk

/-- A slot's output side before trip `k`: its last block on the way out, one in it exactly where its state says so. -/
def SlotOut (k r : ℕ) : sProp 𝕄 :=
  iprop(∃ (fo : Buf (Elt F) (ob.view.loc (tl d L))) (fs : Buf (Elt F) (st.view.loc (tl d L))), (st.view.loc (tl d L) ↦{fullShare} fs)
    ∗ ⌜Clean (ob.view.read (Elt F) fo) (st.view.read (Elt F) fs)⌝
    ∗ (if k = 0 then iprop((ob.view.loc (tl d L) ↦{fullShare} fo) ∗ semVal (tl d L, .dma smO) 0)
      else OutFly d L fin (lo L + (2 * k + r) - 2) ob fo smO))

theorem lo_lt : lo L ≤ 1984 := by
  have h1 : (L 1).val < 16 := (L 1).isLt
  have h0 : (L 0).val < 2 := (L 0).isLt
  unfold lo; omega

/-- A slot's trip once its chunk and its block are in hand: encode, start the next chunk in, start the block out. -/
theorem wp_encode {α : Type} {Q : α → sProp 𝕄} (hc : ∀ v : F .f32, (code v).toNat < 16) {k r : ℕ} (hr : r < 2) (hk : k < 32)
    (hxb : xb.IsWhole) (hob : ob.IsWhole)
    (loop : Prog (TpuEff nD τ sig (Elt F) Λ₀ (tl d L).2) PUnit)
    (hloop : ∀ fx, encInv (F := F) d L xb ob st fx 0
      ⊢ wp frame (wpE (defs₀ (F := F)) 𝒱₀ (tl d L) none) Set.univ loop fun _ => encInv (F := F) d L xb ob st fx 128)
    {c2 : Prop} [Decidable c2] (hc2 : c2 ↔ k < 31)
    {off6 : Fin 1 → ℕ} (inb6 : c2 → ∀ a, off6 a + S2048.size a ≤ S4194304.size a) (ho6 : off6 = ![2048 * (lo L + (2 * k + r + 2))])
    {off7 : Fin 3 → ℕ} {inb7} (ho7 : off7 = outOff (lo L + (2 * k + r)))
    {h3 : ∀ h : c2, (inM.slice (Rect.unit (s := S4194304) off6 S2048.size (inb6 h)) (fun _ => rfl)).view.WordExact} {h4 : xb.view.WordExact} {h5 : DmaTarget.Typed (nD := nD) (p := (tl d L).2) Space.hbm (SemLoc.dma smI) (DmaTarget.here xb)}
    {h6 h7 h8}
    {kont : PUnit → Prog (TpuEff nD τ sig (Elt F) Λ₀ (tl d L).2) α} :
    (iprop((∃ fx : Buf (Elt F) (xb.view.loc (tl d L)), (xb.view.loc (tl d L) ↦{fullShare} fx)
            ∗ ⌜xb.view.read (Elt F) fx = chunk fin (lo L + (2 * k + r))⌝)
        ∗ (inLoc d L ↦[inCut (lo L + (2 * k + r)) (lo L + (2 * k + r) + 1)]{fullShare} fin) ∗ semVal (tl d L, .dma smI) 0
        ∗ (∃ (fo : Buf (Elt F) (ob.view.loc (tl d L))) (fs : Buf (Elt F) (st.view.loc (tl d L))), (st.view.loc (tl d L) ↦{fullShare} fs)
            ∗ ⌜Clean (ob.view.read (Elt F) fo) (st.view.read (Elt F) fs)⌝ ∗ (ob.view.loc (tl d L) ↦{fullShare} fo))
        ∗ semVal (tl d L, .dma smO) 0
        ∗ (inLoc d L ↦[inCut (lo L + (2 * k + r + 2)) (lo L + 64)]{fullShare} fin) ∗ (inLoc d L ↦[inCut (lo L) (lo L + (2 * k + r))]{fullShare} fin)
        ∗ (outLoc d L ↦[outCut (lo L + (2 * k + r)) (lo L + 64)]{fullShare} f₀)
        ∗ (outLoc d L ↦[outCut (lo L) (lo L + (2 * k + r + 1) - 2)]{fullShare} outOf fin)
        ∗ Owe d L O W) : sProp 𝕄)
      ⊢ iprop((iprop(SlotIn d L fin xb smI (k + 1) r ∗ SlotOut d L fin ob st smO (k + 1) r ∗ Shared d L fin f₀ O W (2 * k + r + 1))
            -∗ wp frame (wpE (defs₀ (F := F)) 𝒱₀ (tl d L) none) Set.univ (kont ⟨⟩) Q)
          -∗ wp frame (wpE (defs₀ (F := F)) 𝒱₀ (tl d L) none) Set.univ
              (loop >>= fun _ => dite c2
                  (fun h => .op (.enqueueDma (inM.slice (Rect.unit (s := S4194304) off6 S2048.size (inb6 h)) (fun _ => rfl)) (.here xb) (.dma smI) (h3 h) h4 h5) fun _ =>
                    .op (.enqueueDma ob (.here (outM.slice (Rect.unit (s := S32x16384x128) off7 S16x16x128.size inb7) (fun _ => rfl))) (.dma smO) h6 h7 h8) kont)
                  (fun _ => .op (.enqueueDma ob (.here (outM.slice (Rect.unit (s := S32x16384x128) off7 S16x16x128.size inb7) (fun _ => rfl))) (.dma smO) h6 h7 h8) kont))
            Q) := by
  have hlo := lo_lt (L := L)
  unfold Shared
  iintro ⟨⟨%fx, Hx, %hfx⟩, Hi, Hv, ⟨%fo, %fs, Hs, %hcl, Hob⟩, HvO, Hti, Hdi, Hto, Hdo, HO⟩ Hk
  rw [wp_bind]
  iapply (wp_wand_r frame (wpE (defs₀ (F := F)) 𝒱₀ (tl d L) none))
  isplitl [Hx Hob Hs]
  · iapply (hloop fx)
    unfold encInv
    isplitl [Hx]; · iexact Hx
    iexists fo, fs
    isplitl [Hob]; · iexact Hob
    isplitl [Hs]; · iexact Hs
    ipureintro
    exact hcl.enc _
  iintro %_ Henc
  unfold encInv
  icases Henc with ⟨Hx, %fo', %fs', Hob, Hs, %henc⟩
  have hsp : ob.view.read (Elt F) fo' = spikes (chunk fin (lo L + (2 * k + r))) := by rw [henc.spikes, hfx]
  have hcl' : Clean (ob.view.read (Elt F) fo') (st.view.read (Elt F) fs') := henc.clean hc
  ihave Hdi := (in_split d L fin (a := lo L) (b := lo L + (2 * k + r)) (c := lo L + (2 * k + r + 1)) (by omega) (by omega)).2 $$ [Hdi Hi]
  · isplitl [Hdi]; · iexact Hdi
    iexact Hi
  ihave Hto := (out_split d L f₀ (a := lo L + (2 * k + r)) (b := lo L + (2 * k + r) + 1) (c := lo L + 64) (by omega) (by omega)).1 $$ Hto
  icases Hto with ⟨Ht, Hto⟩
  by_cases hk31 : k < 31
  · rw [dif_pos (hc2.mpr hk31)]
    ihave Hti := (in_split d L fin (a := lo L + (2 * k + r + 2)) (b := lo L + (2 * k + r + 2) + 1) (c := lo L + 64) (by omega) (by omega)).1 $$ Hti
    icases Hti with ⟨Hn, Hti⟩
    iapply (wp_inStart d L fin (by omega) ho6 xb hxb fx smI) $$ [Hn Hx Hv]
    · isplitl [Hn]; · iexact Hn
      isplitl [Hx]; · iexact Hx
      iexact Hv
    iintro Hfi
    iapply (wp_outStart d L fin (by omega) ho7 ob hob fo' hsp f₀ smO) $$ [Ht Hob HvO]
    · isplitl [Ht]; · iexact Ht
      isplitl [Hob]; · iexact Hob
      iexact HvO
    iintro Hfo
    iapply Hk
    unfold SlotIn SlotOut
    rw [if_pos (by omega : k + 1 < 32), show lo L + (2 * (k + 1) + r) = lo L + (2 * k + r + 2) by omega,
      show lo L + (2 * k + r + 2) - 2 = lo L + (2 * k + r) by omega]
    isplitl [Hfi]; · iexact Hfi
    isplitl [Hs Hfo]
    · iexists fo', fs'
      isplitl [Hs]; · iexact Hs
      isplitr; · ipureintro; exact hcl'
      rw [if_neg (by omega : ¬ k + 1 = 0)]
      iexact Hfo
    isplitl [Hti]; · iexact Hti
    isplitl [Hdi]; · iexact Hdi
    isplitl [Hto]; · iexact Hto
    isplitl [Hdo]; · iexact Hdo
    iexact HO
  · rw [dif_neg (fun h => hk31 (hc2.mp h))]
    iapply (wp_outStart d L fin (by omega) ho7 ob hob fo' hsp f₀ smO) $$ [Ht Hob HvO]
    · isplitl [Ht]; · iexact Ht
      isplitl [Hob]; · iexact Hob
      iexact HvO
    iintro Hfo
    iapply Hk
    unfold SlotIn SlotOut
    rw [if_neg (by omega : ¬ k + 1 < 32), show lo L + (2 * (k + 1) + r) - 2 = lo L + (2 * k + r) by omega]
    isplitl [Hx Hv]
    · isplitl [Hx]
      · iexists fx; iexact Hx
      iexact Hv
    isplitl [Hs Hfo]
    · iexists fo', fs'
      isplitl [Hs]; · iexact Hs
      isplitr; · ipureintro; exact hcl'
      rw [if_neg (by omega : ¬ k + 1 = 0)]
      iexact Hfo
    rw [inCut_empty (by omega : lo L + 64 ≤ lo L + (2 * k + r + 2)), inCut_empty (by omega : lo L + 64 ≤ lo L + (2 * k + r + 1 + 2))]
    isplitl [Hti]; · iexact Hti
    isplitl [Hdi]; · iexact Hdi
    isplitl [Hto]; · iexact Hto
    isplitl [Hdo]; · iexact Hdo
    iexact HO

/-- A slot's trip from its chunk's arrival to its block's departure. -/
theorem wp_chunk {α : Type} {Q : α → sProp 𝕄} (hc : ∀ v : F .f32, (code v).toNat < 16) {k r : ℕ} (hr : r < 2) (hk : k < 32)
    (hxb : xb.IsWhole) (hob : ob.IsWhole)
    (loop : Prog (TpuEff nD τ sig (Elt F) Λ₀ (tl d L).2) PUnit)
    (hloop : ∀ fx, encInv (F := F) d L xb ob st fx 0
      ⊢ wp frame (wpE (defs₀ (F := F)) 𝒱₀ (tl d L) none) Set.univ loop fun _ => encInv (F := F) d L xb ob st fx 128)
    {c1 : Prop} [Decidable c1] (hc1 : c1 ↔ 1 ≤ k) {c2 : Prop} [Decidable c2] (hc2 : c2 ↔ k < 31)
    {off6 : Fin 1 → ℕ} (inb6 : c2 → ∀ a, off6 a + S2048.size a ≤ S4194304.size a) (ho6 : off6 = ![2048 * (lo L + (2 * k + r + 2))])
    {off7 : Fin 3 → ℕ} {inb7} (ho7 : off7 = outOff (lo L + (2 * k + r)))
    {h3 : ∀ h : c2, (inM.slice (Rect.unit (s := S4194304) off6 S2048.size (inb6 h)) (fun _ => rfl)).view.WordExact} {h4 : xb.view.WordExact} {h5 : DmaTarget.Typed (nD := nD) (p := (tl d L).2) Space.hbm (SemLoc.dma smI) (DmaTarget.here xb)}
    {h1 h2 h6 h7 h8}
    {kont : PUnit → Prog (TpuEff nD τ sig (Elt F) Λ₀ (tl d L).2) α} :
    (iprop(Transfers.MayWaits (tl d L) (default : HIx 1) O
        ∗ (∃ fx : Buf (Elt F) (xb.view.loc (tl d L)), (xb.view.loc (tl d L) ↦{fullShare} fx)
            ∗ ⌜xb.view.read (Elt F) fx = chunk fin (lo L + (2 * k + r))⌝)
        ∗ (inLoc d L ↦[inCut (lo L + (2 * k + r)) (lo L + (2 * k + r) + 1)]{fullShare} fin) ∗ semVal (tl d L, .dma smI) 0
        ∗ SlotOut d L fin ob st smO k r ∗ Shared d L fin f₀ O W (2 * k + r)) : sProp 𝕄)
      ⊢ iprop((iprop(SlotIn d L fin xb smI (k + 1) r ∗ SlotOut d L fin ob st smO (k + 1) r ∗ Shared d L fin f₀ O W (2 * k + r + 1))
            -∗ wp frame (wpE (defs₀ (F := F)) 𝒱₀ (tl d L) none) Set.univ (kont ⟨⟩) Q)
          -∗ wp frame (wpE (defs₀ (F := F)) 𝒱₀ (tl d L) none) Set.univ
            (dite c1
              (fun _ => .op (.waitDma2 smO ob
                  (outM.slice (Rect.unit (s := S32x16384x128) ![0, 0, 0] S16x16x128.size inb_S32x16384x128_S16x16x128_0_0_0) (fun _ => rfl)) h1 h2) fun _ =>
                loop >>= fun _ => dite c2
                  (fun h => .op (.enqueueDma (inM.slice (Rect.unit (s := S4194304) off6 S2048.size (inb6 h)) (fun _ => rfl)) (.here xb) (.dma smI) (h3 h) h4 h5) fun _ =>
                    .op (.enqueueDma ob (.here (outM.slice (Rect.unit (s := S32x16384x128) off7 S16x16x128.size inb7) (fun _ => rfl))) (.dma smO) h6 h7 h8) kont)
                  (fun _ => .op (.enqueueDma ob (.here (outM.slice (Rect.unit (s := S32x16384x128) off7 S16x16x128.size inb7) (fun _ => rfl))) (.dma smO) h6 h7 h8) kont))
              (fun _ => loop >>= fun _ => dite c2
                  (fun h => .op (.enqueueDma (inM.slice (Rect.unit (s := S4194304) off6 S2048.size (inb6 h)) (fun _ => rfl)) (.here xb) (.dma smI) (h3 h) h4 h5) fun _ =>
                    .op (.enqueueDma ob (.here (outM.slice (Rect.unit (s := S32x16384x128) off7 S16x16x128.size inb7) (fun _ => rfl))) (.dma smO) h6 h7 h8) kont)
                  (fun _ => .op (.enqueueDma ob (.here (outM.slice (Rect.unit (s := S32x16384x128) off7 S16x16x128.size inb7) (fun _ => rfl))) (.dma smO) h6 h7 h8) kont)))
            Q) := by
  have hlo := lo_lt (L := L)
  unfold SlotOut
  unfold Shared
  by_cases hk0 : k = 0
  · simp only [dif_neg (show ¬ c1 from fun h => absurd (hc1.mp h) (by omega)), if_pos hk0]
    iintro ⟨#Hmw, Hx, Hi, Hv, ⟨%fo, %fs, Hs, %hcl, Ho⟩, Hti, Hdi, Hto, Hdo, HO⟩ Hk
    icases Ho with ⟨Hob, HvO⟩
    rw [outCut_empty (by omega : lo L + (2 * k + r) - 2 ≤ lo L)]
    iapply (wp_encode d L fin f₀ O W xb ob st smI smO hc hr hk hxb hob loop hloop hc2 inb6 ho6 ho7) $$ [Hx Hi Hv Hs Hob HvO Hti Hdi Hto Hdo HO]
    · isplitl [Hx]; · iexact Hx
      isplitl [Hi]; · iexact Hi
      isplitl [Hv]; · iexact Hv
      isplitl [Hs Hob]
      · iexists fo, fs
        isplitl [Hs]; · iexact Hs
        isplitr; · ipureintro; exact hcl
        iexact Hob
      isplitl [HvO]; · iexact HvO
      isplitl [Hti]; · iexact Hti
      isplitl [Hdi]; · iexact Hdi
      isplitl [Hto]; · iexact Hto
      rw [outCut_empty (by omega : lo L + (2 * k + r + 1) - 2 ≤ lo L)]
      isplitl [Hdo]; · iexact Hdo
      iexact HO
    unfold Shared
    unfold SlotOut
    iexact Hk
  · simp only [dif_pos (show c1 from hc1.mpr (by omega)), if_neg hk0]
    iintro ⟨#Hmw, Hx, Hi, Hv, ⟨%fo, %fs, Hs, %hcl, Ho⟩, Hti, Hdi, Hto, Hdo, HO⟩ Hk
    iapply (wp_outWait d L fin ob fo smO (O := O) (W := W)) $$ [Ho HO]
    · isplitr; · iexact Hmw
      isplitl [Ho]; · iexact Ho
      iexact HO
    iintro ⟨Hl, Hob, HvO, HO⟩
    ihave Hdo := (out_split d L (outOf fin) (a := lo L) (b := lo L + (2 * k + r) - 2) (c := lo L + (2 * k + r) - 2 + 1) (by omega) (by omega)).2 $$ [Hdo Hl]
    · isplitl [Hdo]; · iexact Hdo
      iexact Hl
    iapply (wp_encode d L fin f₀ O W xb ob st smI smO hc hr hk hxb hob loop hloop hc2 inb6 ho6 ho7) $$ [Hx Hi Hv Hs Hob HvO Hti Hdi Hto Hdo HO]
    · isplitl [Hx]; · iexact Hx
      isplitl [Hi]; · iexact Hi
      isplitl [Hv]; · iexact Hv
      isplitl [Hs Hob]
      · iexists fo, fs
        isplitl [Hs]; · iexact Hs
        isplitr; · ipureintro; exact hcl
        iexact Hob
      isplitl [HvO]; · iexact HvO
      isplitl [Hti]; · iexact Hti
      isplitl [Hdi]; · iexact Hdi
      isplitl [Hto]; · iexact Hto
      rw [show lo L + (2 * k + r + 1) - 2 = lo L + (2 * k + r) - 2 + 1 by omega]
      isplitl [Hdo]; · iexact Hdo
      iexact HO
    unfold Shared
    unfold SlotOut
    iexact Hk

/-- A slot's trip after its chunk's wait is over, in front of any continuation: the wait itself. -/
theorem wp_arrive {α : Type} {Q : α → sProp 𝕄} {k r j : ℕ} (hk : k < 32)
    {sp' : Space} {s' : Shape} {e' : EltTy} {srcw : Memref sig .scVector sp' s' e'} {hsrc hdst}
    {kont : PUnit → Prog (TpuEff nD τ sig (Elt F) Λ₀ (tl d L).2) α} :
    (iprop(Transfers.MayWaits (tl d L) (default : HIx 1) O ∗ SlotIn d L fin xb smI k r ∗ Shared d L fin f₀ O W j) : sProp 𝕄)
      ⊢ iprop((iprop((∃ fx : Buf (Elt F) (xb.view.loc (tl d L)), (xb.view.loc (tl d L) ↦{fullShare} fx)
                ∗ ⌜xb.view.read (Elt F) fx = chunk fin (lo L + (2 * k + r))⌝)
              ∗ (inLoc d L ↦[inCut (lo L + (2 * k + r)) (lo L + (2 * k + r) + 1)]{fullShare} fin) ∗ semVal (tl d L, .dma smI) 0
              ∗ Shared d L fin f₀ O W j)
            -∗ wp frame (wpE (defs₀ (F := F)) 𝒱₀ (tl d L) none) Set.univ (kont ⟨⟩) Q)
          -∗ wp frame (wpE (defs₀ (F := F)) 𝒱₀ (tl d L) none) Set.univ (.op (.waitDma2 smI srcw xb hsrc hdst) kont) Q) := by
  rw [slotIn_lt d L fin xb smI hk]
  unfold Shared
  iintro ⟨#Hmw, Hi, Hti, Hdi, Hto, Hdo, HO⟩ Hk
  iapply (wp_inWait d L fin xb smI (O := O) (W := W)) $$ [Hi HO]
  · isplitr; · iexact Hmw
    isplitl [Hi]; · iexact Hi
    iexact HO
  iintro ⟨Hx, Hi, Hv, HO⟩
  iapply Hk
  isplitl [Hx]; · iexact Hx
  isplitl [Hi]; · iexact Hi
  isplitl [Hv]; · iexact Hv
  isplitl [Hti]; · iexact Hti
  isplitl [Hdi]; · iexact Hdi
  isplitl [Hto]; · iexact Hto
  isplitl [Hdo]; · iexact Hdo
  iexact HO

end Slot

variable (d : Dev nD) (L : grid0.Coords)
  (arg2 : Memref sig .scVector .hbm S4194304 .f32) (harg2 : arg2.IsWhole) (arg3 : Memref sig .scVector .hbm S32x16384x128 .f32) (harg3 : arg3.IsWhole)
  (arg4 : Memref sig .scVector .vmem S2048 .f32) (harg4 : arg4.IsWhole) (arg5 : Memref sig .scVector .vmem S2048 .f32) (harg5 : arg5.IsWhole)
  (arg6 : Memref sig .scVector .vmem S16x16x128 .f32) (harg6 : arg6.IsWhole) (arg7 : Memref sig .scVector .vmem S16x16x128 .f32) (harg7 : arg7.IsWhole)
  (arg8 : Memref sig .scVector .vmem S2048 .i32) (harg8 : arg8.IsWhole) (arg9 : Memref sig .scVector .vmem S2048 .i32) (harg9 : arg9.IsWhole)
  (arg10 arg11 arg12 arg13 : DmaSems sig S_)

variable (fin : Buf (Elt F) (inLoc d L)) (f₀ : Buf (Elt F) (outLoc d L)) (O : CellTallies nD τ sig (HIx 1)) (W : Waits sig (HIx 1))

/-- Before trip `k`: both slots and what they share. -/
def TripInv (k : ℕ) : sProp 𝕄 :=
  iprop(SlotIn d L fin arg4 arg10.sem k 0 ∗ SlotOut d L fin arg6 arg8 arg12.sem k 0
    ∗ SlotIn d L fin arg5 arg11.sem k 1 ∗ SlotOut d L fin arg7 arg9 arg13.sem k 1 ∗ Shared d L fin f₀ O W (2 * k))

/-- One trip keeps the invariant. -/
theorem wp_trip (hc : ∀ v : F .f32, (code v).toNat < 16) (t : Fin k0_t3_loop.trips) (v2 : BitVec 32) (acc : BitVec 32) :
    (iprop(Transfers.MayWaits (tl d L) (default : HIx 1) O ∗ TripInv d L arg4 arg5 arg6 arg7 arg8 arg9 arg10 arg11 arg12 arg13 fin f₀ O W t.val) : sProp 𝕄)
      ⊢ wp frame (wpE (defs₀ (F := F)) 𝒱₀ (tl d L) none) Set.univ
          (k0_t3_body L inM (Memref.isWhole_whole _) outM (Memref.isWhole_whole _) arg4 harg4 arg5 harg5 arg6 harg6 arg7 harg7 arg8 harg8 arg9 harg9
            arg10 arg11 arg12 arg13 v2 (iota .scVector S16 32 [0] iota_S16_d0_w32_scVector) t acc)
          fun _ => TripInv d L arg4 arg5 arg6 arg7 arg8 arg9 arg10 arg11 arg12 arg13 fin f₀ O W (t.val + 1) := by
  have ht : t.val < 32 := t.isLt
  unfold k0_t3_body
  rw [k0_part1_eq_skeleton, wp_bind]
  unfold k0_part1_skel
  simp only [Prog.lift, Prog.bind_op, Prog.bind_ret, Prog.pure_eq_ret, Prog.bind_assoc]
  unfold TripInv
  iintro ⟨#Hmw, Hi0, Ho0, Hi1, Ho1, Hsh⟩
  iapply (wp_arrive d L fin f₀ O W arg4 arg10.sem ht) $$ [Hi0 Hsh]
  · isplitr; · iexact Hmw
    isplitl [Hi0]; · iexact Hi0
    iexact Hsh
  iintro ⟨Hx, Hp, Hv, Hsh⟩
  iapply (wp_chunk d L fin f₀ O W arg4 arg6 arg8 arg10.sem arg12.sem hc (k := t.val) (r := 0) (by omega) ht harg4 harg6 _
    (fun fx => enc_loop4 d L inM (Memref.isWhole_whole _) outM (Memref.isWhole_whole _) arg4 harg4 arg5 harg5 arg6 harg6 arg7 harg7 arg8 harg8 arg9 harg9
      arg10 arg11 arg12 arg13 hc fx v2 0#32 1#32 t) (cond_past t) (cond_next0 t) (k0_off6_inb L t)
    (by rw [k0_off6_eq]; unfold lo; congr 1; omega) (k0_off7_eq L t 0)) $$ [Hx Hp Hv Ho0 Hsh]
  · isplitr; · iexact Hmw
    isplitl [Hx]; · iexact Hx
    isplitl [Hp]; · iexact Hp
    isplitl [Hv]; · iexact Hv
    isplitl [Ho0]; · iexact Ho0
    iexact Hsh
  iintro ⟨Hi0, Ho0, Hsh⟩
  iapply (wp_arrive d L fin f₀ O W arg5 arg11.sem ht) $$ [Hi1 Hsh]
  · isplitr; · iexact Hmw
    isplitl [Hi1]; · iexact Hi1
    iexact Hsh
  iintro ⟨Hx, Hp, Hv, Hsh⟩
  sl_step
  iapply (wp_chunk d L fin f₀ O W arg5 arg7 arg9 arg11.sem arg13.sem hc (k := t.val) (r := 1) (by omega) ht harg5 harg7 _
    (fun fx => enc_loop5 d L inM (Memref.isWhole_whole _) outM (Memref.isWhole_whole _) arg4 harg4 arg5 harg5 arg6 harg6 arg7 harg7 arg8 harg8 arg9 harg9
      arg10 arg11 arg12 arg13 hc fx t) (cond_past t) (cond_next1 t) (k0_off10_inb L t)
    (by rw [k0_off10_eq]; unfold lo; congr 1; omega) (k0_off7_eq L t 1)) $$ [Hx Hp Hv Ho1 Hsh]
  · isplitr; · iexact Hmw
    isplitl [Hx]; · iexact Hx
    isplitl [Hp]; · iexact Hp
    isplitl [Hv]; · iexact Hv
    isplitl [Ho1]; · iexact Ho1
    iexact Hsh
  iintro ⟨Hi1, Ho1, Hsh⟩
  sl_step
  isplitl [Hi0]; · iexact Hi0
  isplitl [Ho0]; · iexact Ho0
  isplitl [Hi1]; · iexact Hi1
  isplitl [Ho1]; · iexact Ho1
  iexact Hsh

end Cert.Proof.Spike

end
-- ==== Proof.Task.lean ====
/-
  A tile's whole task: clear, start the first two chunks, the pipeline's trips, take the last two blocks back.
-/
module

public import proofs.«01_k».proof.Proof.Base
public import proofs.«01_k».proof.Proof.Clear
public import proofs.«01_k».proof.Proof.Trip
public import Idealize.ShloMosaic.Lib.Writes
public import Idealize.ShloMosaic.Lib.WholeRead
public import Idealize.ShloMosaic.Lib.WordExact

@[expose] public section

noncomputable section

namespace Cert.Proof.Spike

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)
  (arg4 : Memref sig .scVector .vmem S2048 .f32) (harg4 : arg4.IsWhole) (arg5 : Memref sig .scVector .vmem S2048 .f32) (harg5 : arg5.IsWhole)
  (arg6 : Memref sig .scVector .vmem S16x16x128 .f32) (harg6 : arg6.IsWhole) (arg7 : Memref sig .scVector .vmem S16x16x128 .f32) (harg7 : arg7.IsWhole)
  (arg8 : Memref sig .scVector .vmem S2048 .i32) (harg8 : arg8.IsWhole) (arg9 : Memref sig .scVector .vmem S2048 .i32) (harg9 : arg9.IsWhole)
  (arg10 arg11 arg12 arg13 : DmaSems sig S_)

variable (fin : Buf (Elt F) (inLoc d L)) (f₀ : Buf (Elt F) (outLoc d L)) (O : CellTallies nD τ sig (HIx 1)) (W : Waits sig (HIx 1))

/-- A buffer held at some contents. -/
abbrev Some' {sp : Space} {s : Shape} {e : EltTy} (a : Memref sig .scVector sp s e) : sProp 𝕄 :=
  iprop(∃ f : Buf (Elt F) (a.view.loc (tl d L)), a.view.loc (tl d L) ↦{fullShare} f)

/-- The tile's scratch and its four counters at zero. -/
def Kit : sProp 𝕄 :=
  iprop(Some' (F := F) d L arg4 ∗ Some' (F := F) d L arg5 ∗ Some' (F := F) d L arg6 ∗ Some' (F := F) d L arg7 ∗ Some' (F := F) d L arg8 ∗ Some' (F := F) d L arg9
    ∗ semVal (tl d L, .dma arg10.sem) 0 ∗ semVal (tl d L, .dma arg11.sem) 0 ∗ semVal (tl d L, .dma arg12.sem) 0 ∗ semVal (tl d L, .dma arg13.sem) 0)

/-- What the trips leave: everything read, all but the last two blocks back. -/
theorem trips_end :
    TripInv d L arg4 arg5 arg6 arg7 arg8 arg9 arg10 arg11 arg12 arg13 fin f₀ O W k0_t3_loop.trips
      ⊢ (iprop(Some' (F := F) d L arg4 ∗ semVal (tl d L, .dma arg10.sem) 0 ∗ Some' (F := F) d L arg5 ∗ semVal (tl d L, .dma arg11.sem) 0
          ∗ Some' (F := F) d L arg8 ∗ Some' (F := F) d L arg9
          ∗ (∃ fo, OutFly d L fin (lo L + 62) arg6 fo arg12.sem) ∗ (∃ fo, OutFly d L fin (lo L + 63) arg7 fo arg13.sem)
          ∗ (inLoc d L ↦[inCut (lo L) (lo L + 64)]{fullShare} fin) ∗ (outLoc d L ↦[outCut (lo L) (lo L + 62)]{fullShare} outOf fin)
          ∗ Owe d L O W) : sProp 𝕄) := by
  have ht : k0_t3_loop.trips = 32 := by decide
  rw [ht]
  unfold TripInv SlotIn SlotOut Shared
  simp only [show ¬ (32 < 32) by decide, show ¬ (32 = 0) by decide, if_false, show lo L + (2 * 32 + 0) - 2 = lo L + 62 by omega,
    show lo L + (2 * 32 + 1) - 2 = lo L + 63 by omega, show lo L + 2 * 32 = lo L + 64 by omega, show lo L + 64 - 2 = lo L + 62 by omega]
  iintro ⟨⟨H4, S4⟩, ⟨%fo6, %fs8, H8, -, H6⟩, ⟨H5, S5⟩, ⟨%fo7, %fs9, H9, -, H7⟩, -, Hin, -, Hout, HO⟩
  isplitl [H4]; · iexact H4
  isplitl [S4]; · iexact S4
  isplitl [H5]; · iexact H5
  isplitl [S5]; · iexact S5
  isplitl [H8]; · iexists fs8; iexact H8
  isplitl [H9]; · iexists fs9; iexact H9
  isplitl [H6]; · iexists fo6; iexact H6
  isplitl [H7]; · iexists fo7; iexact H7
  isplitl [Hin]; · iexact Hin
  isplitl [Hout]; · iexact Hout
  iexact HO

theorem wp_task (hc : ∀ v : F .f32, (code v).toNat < 16) :
    (iprop(Transfers.MayWaits (tl d L) (default : HIx 1) O
        ∗ (inLoc d L ↦[inCut (lo L) (lo L + 64)]{fullShare} fin) ∗ (outLoc d L ↦[outCut (lo L) (lo L + 64)]{fullShare} f₀)
        ∗ Kit (F := F) d L arg4 arg5 arg6 arg7 arg8 arg9 arg10 arg11 arg12 arg13 ∗ Owe d L O W) : sProp 𝕄)
      ⊢ wp frame (wpE (defs₀ (F := F)) 𝒱₀ (tl d L) none) Set.univ
          (cc0__sc_body L inM (Memref.isWhole_whole _) outM (Memref.isWhole_whole _) arg4 harg4 arg5 harg5 arg6 harg6 arg7 harg7 arg8 harg8 arg9 harg9
            arg10 arg11 arg12 arg13)
          fun _ => iprop((inLoc d L ↦[inCut (lo L) (lo L + 64)]{fullShare} fin) ∗ (outLoc d L ↦[outCut (lo L) (lo L + 64)]{fullShare} outOf fin)
            ∗ Kit (F := F) d L arg4 arg5 arg6 arg7 arg8 arg9 arg10 arg11 arg12 arg13 ∗ Owe d L O W) := by
  have hlo := lo_lt (L := L)
  rw [cc0__sc_body_eq_skeleton]
  unfold cc0__sc_body_skel
  rw [k0_part2_eq_skeleton, wp_bind]
  unfold k0_part2_skel
  simp only [Prog.lift, Prog.bind_op, Prog.bind_ret, Prog.pure_eq_ret]
  unfold Kit
  iintro ⟨#Hmw, Hin, Hout, ⟨⟨%f4, H4⟩, ⟨%f5, H5⟩, ⟨%f6, H6⟩, ⟨%f7, H7⟩, ⟨%f8, H8⟩, ⟨%f9, H9⟩, S10, S11, S12, S13⟩, HO⟩
  -- both blocks and both states cleared
  rw [wp_bind]
  iapply (wp_wand_r frame (wpE (defs₀ (F := F)) 𝒱₀ (tl d L) none))
  isplitl [H6 H7]
  · iapply (zero_loop1 d L inM (Memref.isWhole_whole _) outM (Memref.isWhole_whole _) arg4 harg4 arg5 harg5 arg6 harg6 arg7 harg7 arg8 harg8 arg9 harg9
      arg10 arg11 arg12 arg13 f6 f7)
    isplitl [H6]; · iexact H6
    iexact H7
  iintro %_ ⟨%g6, %g7, H6, H7, %hz⟩
  rw [wp_bind]
  iapply (wp_wand_r frame (wpE (defs₀ (F := F)) 𝒱₀ (tl d L) none))
  isplitl [H8 H9]
  · iapply (zero_loop2 d L inM (Memref.isWhole_whole _) outM (Memref.isWhole_whole _) arg4 harg4 arg5 harg5 arg6 harg6 arg7 harg7 arg8 harg8 arg9 harg9
      arg10 arg11 arg12 arg13 f8 f9)
    isplitl [H8]; · iexact H8
    iexact H9
  iintro %_ ⟨%g8, %g9, H8, H9, %hr⟩
  -- the first two chunks
  ihave Hin := (in_split d L fin (a := lo L) (b := lo L + 1) (c := lo L + 64) (by omega) (by omega)).1 $$ Hin
  icases Hin with ⟨Hp0, Hin⟩
  ihave Hin := (in_split d L fin (a := lo L + 1) (b := lo L + 1 + 1) (c := lo L + 64) (by omega) (by omega)).1 $$ Hin
  icases Hin with ⟨Hp1, Hin⟩
  iapply (wp_inStart d L fin (n := lo L) (by omega) ((k0_off3_eq L 0).trans (by unfold lo; congr 1; simp; omega)) arg4 harg4 f4 arg10.sem) $$ [Hp0 H4 S10]
  · isplitl [Hp0]; · iexact Hp0
    isplitl [H4]; · iexact H4
    iexact S10
  iintro Hf0
  iapply (wp_inStart d L fin (n := lo L + 1) (by omega) ((k0_off3_eq L 1).trans (by unfold lo; congr 1; simp; omega)) arg5 harg5 f5 arg11.sem) $$ [Hp1 H5 S11]
  · isplitl [Hp1]; · iexact Hp1
    isplitl [H5]; · iexact H5
    iexact S11
  iintro Hf1
  -- the trips
  sl_for (fun n (_ : BitVec 32) => iprop(Transfers.MayWaits (tl d L) (default : HIx 1) O
      ∗ TripInv d L arg4 arg5 arg6 arg7 arg8 arg9 arg10 arg11 arg12 arg13 fin f₀ O W n)) $$ [Hf0 Hf1 H6 H7 H8 H9 S12 S13 Hin Hout HO]
  case region =>
    intro k acc
    iintro ⟨#Hmw, H⟩
    iapply (wp_wand_r frame (wpE (defs₀ (F := F)) 𝒱₀ (tl d L) none))
    isplitl [H]
    · iapply (wp_trip d L arg4 harg4 arg5 harg5 arg6 harg6 arg7 harg7 arg8 harg8 arg9 harg9 arg10 arg11 arg12 arg13 fin f₀ O W hc k _ acc)
      isplitr; · iexact Hmw
      iexact H
    iintro %_ H
    isplitr; · iexact Hmw
    iexact H
  · isplitr; · iexact Hmw
    unfold TripInv
    rw [slotIn_lt d L fin arg4 arg10.sem (by decide), slotIn_lt d L fin arg5 arg11.sem (by decide)]
    unfold SlotOut Shared
    simp only [if_pos]
    isplitl [Hf0]; · iexact Hf0
    isplitl [H6 H8 S12]
    · iexists g6, g8
      isplitl [H8]; · iexact H8
      isplitr; · ipureintro; exact clean_of_zeroed hz.1 hr.1
      isplitl [H6]; · iexact H6
      iexact S12
    isplitl [Hf1]; · iexact Hf1
    isplitl [H7 H9 S13]
    · iexists g7, g9
      isplitl [H9]; · iexact H9
      isplitr; · ipureintro; exact clean_of_zeroed hz.2 hr.2
      isplitl [H7]; · iexact H7
      iexact S13
    rw [inCut_empty (by omega : lo L + 2 * 0 ≤ lo L), outCut_empty (by omega : lo L + 2 * 0 - 2 ≤ lo L)]
    rw [pointsTo_empty, pointsTo_empty]
    isplitl [Hin]; · iexact Hin
    isplitr; · iempintro
    isplitl [Hout]; · iexact Hout
    isplitr; · iempintro
    iexact HO
  iintro %_ ⟨#Hmw, H⟩
  ihave H := (trips_end d L arg4 arg5 arg6 arg7 arg8 arg9 arg10 arg11 arg12 arg13 fin f₀ O W) $$ H
  icases H with ⟨H4, S10, H5, S11, H8, H9, ⟨%fo6, H6⟩, ⟨%fo7, H7⟩, Hin, Hout, HO⟩
  -- the last two blocks
  iapply (wp_outWait d L fin arg6 fo6 arg12.sem (O := O) (W := W)) $$ [H6 HO]
  · isplitr; · iexact Hmw
    isplitl [H6]; · iexact H6
    iexact HO
  iintro ⟨Hp, H6, S12, HO⟩
  ihave Hout := (out_split d L (outOf fin) (a := lo L) (b := lo L + 62) (c := lo L + 63) (by omega) (by omega)).2 $$ [Hout Hp]
  · isplitl [Hout]; · iexact Hout
    iexact Hp
  sl_step
  iapply (wp_outWait d L fin arg7 fo7 arg13.sem (O := O) (W := W)) $$ [H7 HO]
  · isplitr; · iexact Hmw
    isplitl [H7]; · iexact H7
    iexact HO
  iintro ⟨Hp, H7, S13, HO⟩
  ihave Hout := (out_split d L (outOf fin) (a := lo L) (b := lo L + 63) (c := lo L + 64) (by omega) (by omega)).2 $$ [Hout Hp]
  · isplitl [Hout]; · iexact Hout
    iexact Hp
  sl_step
  isplitl [Hin]; · iexact Hin
  isplitl [Hout]; · iexact Hout
  isplitr [HO]
  · isplitl [H4]; · iexact H4
    isplitl [H5]; · iexact H5
    isplitl [H6]; · iexists fo6; iexact H6
    isplitl [H7]; · iexists fo7; iexact H7
    isplitl [H8]; · iexact H8
    isplitl [H9]; · iexact H9
    isplitl [S10]; · iexact S10
    isplitl [S11]; · iexact S11
    isplitl [S12]; · iexact S12
    iexact S13
  iexact HO

end Cert.Proof.Spike

end
-- ==== Proof.Tile.lean ====
/-
  The launch's obligation for a tile: its scratch and counters found among what the launch deals it, its task run.
-/
module

public import proofs.«01_k».proof.Proof.Base
public import proofs.«01_k».proof.Proof.Task
public import Idealize.ShloMosaic.Lib.Writes
public import Idealize.ShloMosaic.Lib.WholeRead
public import Idealize.ShloMosaic.Lib.WordExact

@[expose] public section

noncomputable section

namespace Cert.Proof.Spike

open Cert.KernelIdeal Cert.KernelIdeal.Gen

open Idealize.ShloMosaic
open Idealize.ShloMosaic.SparseCore (S V T)
open Idealize.ShloMosaic.SparseCore.Cfg (HIx)
open Idealize.ShloMosaic.SparseCore.Cfg (ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## What passes between the TensorCore, the sequencers and the tiles -/

abbrev iLoc (d : Dev nD) : Loc nD τ sig := (SparseCore.T d).loc main_v2
abbrev oLoc (d : Dev nD) : Loc nD τ sig := (SparseCore.T d).loc main_v3

/-- The first chunk of tile `s` of core `c`. -/
def base (c : Fin 2) (s : Fin 16) : ℕ := 128 * s.val + 64 * c.val

def iTile (c : Fin 2) (s : Fin 16) : Finset S4194304.Idx := inCut (base c s) (base c s + 64)
def oTile (c : Fin 2) (s : Fin 16) : Finset S32x16384x128.Idx := outCut (base c s) (base c s + 64)
def iCore (c : Fin 2) : Finset S4194304.Idx := Finset.univ.biUnion (iTile c)
def oCore (c : Fin 2) : Finset S32x16384x128.Idx := Finset.univ.biUnion (oTile c)

variable (fin : (d : Dev nD) → Buf (Elt F) (iLoc d)) (f₀ : (d : Dev nD) → Buf (Elt F) (oLoc d))

/-- The output's contents once every tile is done. -/
def done (d : Dev nD) : Buf (Elt F) (oLoc d) := fun y => outOf (F := F) (fin d) y

/-- A part of the input and a part of the output. -/
abbrev Part (d : Dev nD) (I : Finset S4194304.Idx) (J : Finset S32x16384x128.Idx) (g : Buf (Elt F) (oLoc d)) : sProp 𝕄 :=
  iprop((iLoc d ↦[I]{fullShare} fin d) ∗ (oLoc d ↦[J]{fullShare} g))

/-- A core takes its tiles' parts, each tile its own; the output comes back at its final contents. -/
def P : (K (F := F)).Pay (nD := nD) (Val := Elt F) (Name := ℕ) (U := UU) where
  st := fun q d c => match q with | 0 => Part fin d (iCore (Fin.cast nCore_zero c)) (oCore (Fin.cast nCore_zero c)) (f₀ d)
  dn := fun q d c => match q with | 0 => Part fin d (iCore (Fin.cast nCore_zero c)) (oCore (Fin.cast nCore_zero c)) (done fin d)
  go := fun q d c i => match q with
    | 0 => Part fin d (iTile (Fin.cast nCore_zero c) (Fin.cast nSub_zero i)) (oTile (Fin.cast nCore_zero c) (Fin.cast nSub_zero i)) (f₀ d)
  td := fun q d c i => match q with
    | 0 => Part fin d (iTile (Fin.cast nCore_zero c) (Fin.cast nSub_zero i)) (oTile (Fin.cast nCore_zero c) (Fin.cast nSub_zero i)) (done fin d)
  x := fun _ _ => iprop(emp)

instance storable_P : (P (F := F) fin f₀).IsStorable where
  st q d c := match q with
    | 0 => (inferInstance : BI.Storable (upEmb : UEmb _ 𝕄) (Part fin d (iCore (Fin.cast nCore_zero c)) (oCore (Fin.cast nCore_zero c)) (f₀ d)))
  dn q d c := match q with
    | 0 => (inferInstance : BI.Storable (upEmb : UEmb _ 𝕄) (Part fin d (iCore (Fin.cast nCore_zero c)) (oCore (Fin.cast nCore_zero c)) (done fin d)))
  go q d c i := match q with
    | 0 => (inferInstance : BI.Storable (upEmb : UEmb _ 𝕄)
        (Part fin d (iTile (Fin.cast nCore_zero c) (Fin.cast nSub_zero i)) (oTile (Fin.cast nCore_zero c) (Fin.cast nSub_zero i)) (f₀ d)))
  td q d c i := match q with
    | 0 => (inferInstance : BI.Storable (upEmb : UEmb _ 𝕄)
        (Part fin d (iTile (Fin.cast nCore_zero c) (Fin.cast nSub_zero i)) (oTile (Fin.cast nCore_zero c) (Fin.cast nSub_zero i)) (done fin d)))

/-! ## A tile's scratch and counters among its own -/

section Tile

variable (d : Dev nD) (L : grid0.Coords)

/-- The scratch buffers, and the counters, by number. -/
def scr : Fin 6 → Ref sig .scVector := ![cc0_scratch0, cc0_scratch1, cc0_scratch2, cc0_scratch3, cc0_scratch4, cc0_scratch5]
def cnt : Fin 4 → DmaSem sig := ![cc0_scratch6.sem, cc0_scratch7.sem, cc0_scratch8.sem, cc0_scratch9.sem]

theorem scr_inj : Function.Injective scr := by decide
theorem cnt_inj : Function.Injective cnt := by decide

def scrEmb : Fin 6 ↪ DevRef τ sig := ⟨fun n => (tl d L).2.devRef (scr n), fun _ _ e => scr_inj (Proc.devRef_injective _ e)⟩
def cntEmb : Fin 4 ↪ GSem nD τ sig := ⟨fun n => (tl d L, .dma (cnt n)), fun _ _ e => cnt_inj (by simpa using e)⟩

theorem scr_own : Finset.univ.map (scrEmb d L) ⊆ ownRefs (τ := τ) (sig := sig) (.scVector (cV L) (jV L)) := by
  intro b hb
  obtain ⟨n, -, rfl⟩ := Finset.mem_map.mp hb
  exact mem_ownRefs_of_owner (by fin_cases n <;> rfl)

theorem cnt_own : Finset.univ.map (cntEmb d L) ⊆ ownCells (tl d L) := by
  intro b hb
  obtain ⟨n, -, rfl⟩ := Finset.mem_map.mp hb
  exact mem_ownCells.mpr ⟨rfl, (show ∀ n : Fin 4, (SemLoc.dma (cnt n) : SemLoc sig).isScoped .scVector = true by decide) n⟩

/-- The six buffers at some contents, the rest of the tile's own. -/
theorem own_bufs : ∃ rest : sProp 𝕄, (ownBufs (tl d L) : sProp 𝕄) = iprop(
    (Some' (F := F) d L (Memref.whole cc0_scratch0) ∗ Some' (F := F) d L (Memref.whole cc0_scratch1) ∗ Some' (F := F) d L (Memref.whole cc0_scratch2)
      ∗ Some' (F := F) d L (Memref.whole cc0_scratch3) ∗ Some' (F := F) d L (Memref.whole cc0_scratch4) ∗ Some' (F := F) d L (Memref.whole cc0_scratch5)) ∗ rest) := by
  refine ⟨bigSep (ownRefs (τ := τ) (sig := sig) (.scVector (cV L) (jV L)) \ Finset.univ.map (scrEmb d L))
    fun b => iprop(∃ f, ((d, b) : Loc nD τ sig) ↦{fullShare} f), ?_⟩
  unfold SparseCore.Cfg.ownBufs
  refine (SparseCore.bigSep_sdiff_split' (scr_own d L)).trans ?_
  rw [bigSep_map, show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]
  rfl

/-- The four counters at zero, the rest of the tile's own. -/
theorem own_sems : ∃ rest : sProp 𝕄, (ownSems0 (tl d L) : sProp 𝕄) = iprop(
    (semVal (tl d L, .dma cc0_scratch6.sem) 0 ∗ semVal (tl d L, .dma cc0_scratch7.sem) 0 ∗ semVal (tl d L, .dma cc0_scratch8.sem) 0
      ∗ semVal (tl d L, .dma cc0_scratch9.sem) 0) ∗ rest) := by
  refine ⟨bigSep (ownCells (tl d L) \ Finset.univ.map (cntEmb d L)) fun g => semVal g 0, ?_⟩
  unfold SparseCore.Cfg.ownSems0
  refine (SparseCore.bigSep_sdiff_split' (cnt_own d L)).trans ?_
  rw [bigSep_map, show (Finset.univ : Finset (Fin 4)) = {0, 1, 2, 3} by decide, SparseCore.bigSep_insert' (by decide), SparseCore.bigSep_insert' (by decide),
    SparseCore.bigSep_insert' (by decide), bigSep_singleton]
  rfl

theorem base_lo (hc : (L 0).val < 2) (hs : (L 1).val < 16) : base ⟨(L 0).val, hc⟩ ⟨(L 1).val, hs⟩ = lo L := rfl

/-- The task, as the launch deals it its resources and takes them back. -/
theorem tile_task (hF : (K (F := F)).Facts) (hc : ∀ v : F .f32, (code v).toNat < 16) (O : CellTallies nD τ sig (HIx 1)) (W : Waits sig (HIx 1))
    (hO : ∀ g, O g none = 0) :
    (iprop(levAts (K (F := F)).L (K (F := F)).lev ∗ emp ∗ Part fin d (inCut (lo L) (lo L + 64)) (outCut (lo L) (lo L + 64)) (f₀ d)
        ∗ scopedBufs (tl d L) ∗ scopedSems0 (tl d L) ∗ owes (tl d L) O W) : sProp 𝕄)
      ⊢ wp frame (wpE (defs₀ (F := F)) 𝒱₀ (tl d L) none) Set.univ
          (cc0__sc_body L inM (Memref.isWhole_whole _) outM (Memref.isWhole_whole _) (Memref.whole cc0_scratch0) (Memref.isWhole_whole _)
            (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9)
          fun _ => iprop(Part fin d (inCut (lo L) (lo L + 64)) (outCut (lo L) (lo L + 64)) (done fin d)
            ∗ scopedBufs (tl d L) ∗ scopedSems0 (tl d L) ∗ ∃ W', ⌜∀ p ∈ W', p ∈ W ∨ p.2 = none⌝ ∗ owes (tl d L) O W') := by
  obtain ⟨rb, hb⟩ := own_bufs (F := F) d L
  obtain ⟨rs, hs⟩ := own_sems (F := F) d L
  rw [(K (F := F)).scopedBufs_V hF d (cV L) (jV L), SparseCore.Cfg.scopedSems0_V (Val := Elt F) d (cV L) (jV L), hb, hs]
  iintro ⟨#Hlv, -, ⟨Hin, Hout⟩, ⟨⟨B0, B1, B2, B3, B4, B5⟩, Hrb⟩, ⟨⟨S0, S1, S2, S3⟩, Hrs⟩, HO⟩
  ihave Hmw := (show levAts (K (F := F)).L (K (F := F)).lev ⊢ Transfers.MayWaits (tl d L) (default : HIx 1) O from
    (K (F := F)).mayWaits_none (thr := tl d L) hO) $$ Hlv
  iapply (wp_wand_r frame (wpE (defs₀ (F := F)) 𝒱₀ (tl d L) none))
  isplitl [Hmw Hin Hout B0 B1 B2 B3 B4 B5 S0 S1 S2 S3 HO]
  · iapply (wp_task d L (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 (fin d) (f₀ d) O W hc)
    isplitl [Hmw]; · iexact Hmw
    isplitl [Hin]; · iexact Hin
    isplitl [Hout]; · iexact Hout
    isplitr [HO]
    · unfold Kit
      isplitl [B0]; · iexact B0
      isplitl [B1]; · iexact B1
      isplitl [B2]; · iexact B2
      isplitl [B3]; · iexact B3
      isplitl [B4]; · iexact B4
      isplitl [B5]; · iexact B5
      isplitl [S0]; · iexact S0
      isplitl [S1]; · iexact S1
      isplitl [S2]; · iexact S2
      iexact S3
    unfold Owe
    iexists W
    isplitr; · ipureintro; exact fun p hp => .inl hp
    iexact HO
  unfold Kit Owe
  iintro %_ ⟨Hin, Hout, ⟨B0, B1, B2, B3, B4, B5, S0, S1, S2, S3⟩, HO⟩
  isplitl [Hin Hout]
  · isplitl [Hin]; · iexact Hin
    iexact Hout
  isplitl [B0 B1 B2 B3 B4 B5 Hrb]
  · isplitr [Hrb]
    · isplitl [B0]; · iexact B0
      isplitl [B1]; · iexact B1
      isplitl [B2]; · iexact B2
      isplitl [B3]; · iexact B3
      isplitl [B4]; · iexact B4
      iexact B5
    iexact Hrb
  isplitr [HO]
  · isplitr [Hrs]
    · isplitl [S0]; · iexact S0
      isplitl [S1]; · iexact S1
      isplitl [S2]; · iexact S2
      iexact S3
    iexact Hrs
  iexact HO

end Tile

/-! ## The obligation -/

/-- A tile's grid coordinates from its core and its number. -/
def at_ (c : Fin (grid0.bound 0)) (s : Fin (grid0.bound 1)) : grid0.Coords :=
  fun | 0 => c | 1 => s | ⟨_ + 2, h⟩ => absurd h (Nat.not_lt.2 (Nat.le_add_left _ _))

theorem tile_body_eq (c : Fin τ.nSC) (s : Fin τ.nSub) :
    defs₀ (F := F) (.scVector c s) 0 ()
      = SparseCore.onTile hcore0 hsub0 (fun c s => cc0__sc_body (at_ c s) inM (Memref.isWhole_whole _) outM (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9) ⟨⟩ c s := rfl

/-- Waits at no stage are waits the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, ⟨%V, %hV, HO⟩⟩
  isplitl [HA]; · iexact HA
  isplitl [HB]; · iexact HB
  isplitl [HC]; · iexact HC
  iexists V
  isplitr; · ipureintro; exact fun p hp => (hV p hp).elim .inl fun h => .inr (.inl h)
  iexact HO

set_option maxRecDepth 16384 in
theorem obligation (hF : (K (F := F)).Facts) (hc : ∀ v : F .f32, (code v).toNat < 16) : (K (F := F)).TileObl (D (F := F)) 𝒱 (P fin f₀) v₀ 0 := by
  intro d c s O W hO _ _
  have hcs : ((K (F := F)).core 0 c).val < grid0.bound 0 ∧ ((K (F := F)).sub 0 s).val < grid0.bound 1 := ⟨c.isLt, s.isLt⟩
  simp only [show (P fin f₀).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [tile_body_eq]
  simp only [SparseCore.onTile, hcs, and_self, ↓reduceDIte]
  exact (tile_task fin f₀ d (at_ ⟨_, hcs.1⟩ ⟨_, hcs.2⟩) hF hc O W hO).trans (wp_mono frame _ _ fun _ => waits_weaken)

end Cert.Proof.Spike

end
-- ==== Proof.Launch.lean ====
/-
  The launch: the cores' and tiles' parts cut and joined, the TensorCore's line of operations around the call, and the
  run of the whole mesh with what it leaves.
-/
module

public import proofs.«01_k».proof.Proof.Base
public import proofs.«01_k».proof.Proof.Tile
public import Idealize.ShloMosaic.Lib.Writes
public import Idealize.ShloMosaic.Lib.WholeRead
public import Idealize.ShloMosaic.Lib.WordExact

@[expose] public section

noncomputable section

namespace Cert.Proof.Spike

open Cert.KernelIdeal Cert.KernelIdeal.Gen

open Idealize.ShloMosaic
open Idealize.ShloMosaic.SparseCore (S V T)
open Idealize.ShloMosaic.SparseCore.Cfg (HIx)
open Idealize.ShloMosaic.SparseCore.Cfg (ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_congr held_sub_split wp_hlo_within)
open Idealize.ShloMosaic.Tactic

variable {F : FTy → Type} [FloatOps F]

local notation "𝕄" => MT nD τ sig (HIx 1) (Elt F) ℕ UU ℕ

/-! ## The parts tile the arrays -/

theorem inChunk_lt (p : S4194304.Idx) : inChunk p < 2048 := by
  have h : (p 0).val < 4194304 := (p 0).isLt
  unfold inChunk; omega
theorem outChunk_lt (y : S32x16384x128.Idx) : outChunk y < 2048 := by
  have h0 : (y 0).val < 32 := (y 0).isLt
  have h1 : (y 1).val < 16384 := (y 1).isLt
  unfold outChunk; omega

theorem base_inj {c c' : Fin 2} {s s' : Fin 16} {n : ℕ} (h : base c s ≤ n ∧ n < base c s + 64) (h' : base c' s' ≤ n ∧ n < base c' s' + 64) :
    c = c' ∧ s = s' := by
  unfold base at h h'
  have := c.isLt; have := c'.isLt; have := s.isLt; have := s'.isLt
  constructor <;> apply Fin.ext <;> omega

theorem base_cover {n : ℕ} (h : n < 2048) : ∃ c s, base c s ≤ n ∧ n < base c s + 64 :=
  ⟨⟨n / 64 % 2, by omega⟩, ⟨n / 128, by omega⟩, by unfold base; simp only; omega⟩

theorem iTile_disjoint (c : Fin 2) : ∀ s ∈ (Finset.univ : Finset (Fin 16)), ∀ s' ∈ (Finset.univ : Finset (Fin 16)), s ≠ s' → Disjoint (iTile c s) (iTile c s') :=
  fun _ _ _ _ hne => Finset.disjoint_left.mpr fun _ h h' => hne (base_inj (mem_inCut.mp h) (mem_inCut.mp h')).2
theorem oTile_disjoint (c : Fin 2) : ∀ s ∈ (Finset.univ : Finset (Fin 16)), ∀ s' ∈ (Finset.univ : Finset (Fin 16)), s ≠ s' → Disjoint (oTile c s) (oTile c s') :=
  fun _ _ _ _ hne => Finset.disjoint_left.mpr fun _ h h' => hne (base_inj (mem_outCut.mp h) (mem_outCut.mp h')).2

theorem mem_iCore {c : Fin 2} {p : S4194304.Idx} : p ∈ iCore c ↔ ∃ s, base c s ≤ inChunk p ∧ inChunk p < base c s + 64 := by
  simp [iCore, iTile, mem_inCut]
theorem mem_oCore {c : Fin 2} {p : S32x16384x128.Idx} : p ∈ oCore c ↔ ∃ s, base c s ≤ outChunk p ∧ outChunk p < base c s + 64 := by
  simp [oCore, oTile, mem_outCut]

theorem iCore_disjoint : ∀ c ∈ (Finset.univ : Finset (Fin 2)), ∀ c' ∈ (Finset.univ : Finset (Fin 2)), c ≠ c' → Disjoint (iCore c) (iCore c') :=
  fun _ _ _ _ hne => Finset.disjoint_left.mpr fun _ h h' => by
    obtain ⟨_, h⟩ := mem_iCore.mp h
    obtain ⟨_, h'⟩ := mem_iCore.mp h'
    exact hne (base_inj h h').1
theorem oCore_disjoint : ∀ c ∈ (Finset.univ : Finset (Fin 2)), ∀ c' ∈ (Finset.univ : Finset (Fin 2)), c ≠ c' → Disjoint (oCore c) (oCore c') :=
  fun _ _ _ _ hne => Finset.disjoint_left.mpr fun _ h h' => by
    obtain ⟨_, h⟩ := mem_oCore.mp h
    obtain ⟨_, h'⟩ := mem_oCore.mp h'
    exact hne (base_inj h h').1

theorem iCore_cover : (Finset.univ : Finset (Fin 2)).biUnion iCore = Finset.univ :=
  Finset.eq_univ_iff_forall.mpr fun p => by
    obtain ⟨c, s, h⟩ := base_cover (inChunk_lt p)
    exact Finset.mem_biUnion.mpr ⟨c, Finset.mem_univ _, mem_iCore.mpr ⟨s, h⟩⟩
theorem oCore_cover : (Finset.univ : Finset (Fin 2)).biUnion oCore = Finset.univ :=
  Finset.eq_univ_iff_forall.mpr fun p => by
    obtain ⟨c, s, h⟩ := base_cover (outChunk_lt p)
    exact Finset.mem_biUnion.mpr ⟨c, Finset.mem_univ _, mem_oCore.mpr ⟨s, h⟩⟩

/-! ## A core's part is its tiles', the whole the cores' -/

section Parts

variable (fin : (d : Dev nD) → Buf (Elt F) (iLoc d)) (f₀ : (d : Dev nD) → Buf (Elt F) (oLoc d))

theorem part_core (d : Dev nD) (c : Fin 2) (g : Buf (Elt F) (oLoc d)) :
    (bigSep Finset.univ fun s : Fin ((K (F := F)).nSub 0) => Part fin d (iTile c (Fin.cast nSub_zero s)) (oTile c (Fin.cast nSub_zero s)) g)
      = Part fin d (iCore c) (oCore c) g := by
  rw [show (bigSep Finset.univ fun s : Fin ((K (F := F)).nSub 0) => Part fin d (iTile c (Fin.cast nSub_zero s)) (oTile c (Fin.cast nSub_zero s)) g)
      = bigSep Finset.univ fun s : Fin 16 => Part fin d (iTile c s) (oTile c s) g from rfl, bigSep_sep',
    ← pointsTo_biUnion Finset.univ (ℓ := iLoc d) (iTile c) (iTile_disjoint c), ← pointsTo_biUnion Finset.univ (ℓ := oLoc d) (oTile c) (oTile_disjoint c)]
  rfl

theorem part_all (d : Dev nD) (g : Buf (Elt F) (oLoc d)) :
    (bigSep Finset.univ fun c : Fin ((K (F := F)).nCore 0) => Part fin d (iCore (Fin.cast nCore_zero c)) (oCore (Fin.cast nCore_zero c)) g)
      = iprop((iLoc d ↦{fullShare} fin d) ∗ (oLoc d ↦{fullShare} g)) := by
  rw [show (bigSep Finset.univ fun c : Fin ((K (F := F)).nCore 0) => Part fin d (iCore (Fin.cast nCore_zero c)) (oCore (Fin.cast nCore_zero c)) g)
      = bigSep Finset.univ fun c : Fin 2 => Part fin d (iCore c) (oCore c) g from rfl, bigSep_sep',
    ← pointsTo_biUnion Finset.univ (ℓ := iLoc d) iCore iCore_disjoint, ← pointsTo_biUnion Finset.univ (ℓ := oLoc d) oCore oCore_disjoint,
    iCore_cover, oCore_cover]

theorem split : (K (F := F)).VecSplit' (P fin f₀) 0 := by
  intro d c
  show Part fin d (iCore (Fin.cast nCore_zero c)) (oCore (Fin.cast nCore_zero c)) (f₀ d) ⊢ |={Set.univ}=> iprop(
      (bigSep Finset.univ fun s : Fin ((K (F := F)).nSub 0) => Part fin d (iTile (Fin.cast nCore_zero c) (Fin.cast nSub_zero s)) (oTile (Fin.cast nCore_zero c) (Fin.cast nSub_zero s)) (f₀ d))
      ∗ ((bigSep Finset.univ fun s : Fin ((K (F := F)).nSub 0) => Part fin d (iTile (Fin.cast nCore_zero c) (Fin.cast nSub_zero s)) (oTile (Fin.cast nCore_zero c) (Fin.cast nSub_zero s)) (done fin d))
        -∗ Part fin d (iCore (Fin.cast nCore_zero c)) (oCore (Fin.cast nCore_zero c)) (done fin d)))
  rw [part_core, part_core]
  iintro H
  imodintro
  isplitl [H]; · iexact H
  iintro H
  iexact H

/-! ## The launch's ghost state -/

def u₀ : UU := (initOf (K (F := F)).hsCells (K (F := F)).hsToks, 1)

theorem emps {I : Type} (s : Finset I) : (bigSep s fun _ => iprop(emp)) = (iprop(emp) : sProp 𝕄) := bigSep_emp_const s

theorem start_ghost : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fin f₀).x q thr) := by
  have hx : (bigSep Finset.univ fun thr : Thread nD τ => bigSep Finset.univ fun q : Fin 1 => (P (F := F) fin f₀).x q thr) = (iprop(emp) : sProp 𝕄) :=
    (bigSep_congr fun _ _ => emps _).trans (emps _)
  rw [hx, emps]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

end Parts

/-! ## The TensorCore's line -/

variable (m : (ℓ : Loc nD τ sig) → Buf (Elt F) ℓ) (ρ : Dev nD → PrngReg)

abbrev rf (r : Ref sig .tc) : DevRef τ sig := Proc.devRef .tc r

abbrev op0 : HloOp τ sig (Elt F) := StableHlo.reshape main_arg0 main_v0 (rfl : (.f32 : EltTy) = .f32) shapeCasts_S2x2048x1024_S2x256x8x8x128
abbrev op1 : HloOp τ sig (Elt F) := StableHlo.unary main_v0 main_v1
  ((transpose S2x256x8x8x128 [0, 1, 3, 2, 4] · transposes_S2x256x8x8x128_S2x256x8x8x128_0_1_3_2_4) : (⟨S2x256x8x8x128, .f32⟩ : BufTy).Contents (Elt F) → (⟨S2x256x8x8x128, .f32⟩ : BufTy).Contents (Elt F))
abbrev op2 : HloOp τ sig (Elt F) := StableHlo.reshape main_v1 main_v2 (rfl : (.f32 : EltTy) = .f32) shapeCasts_S2x256x8x8x128_S4194304
abbrev op4 : HloOp τ sig (Elt F) := StableHlo.reshape main_v3 main_v4 (rfl : (.f32 : EltTy) = .f32) shapeCasts_S32x16384x128_S2x16x256x8x8x128
abbrev op5 : HloOp τ sig (Elt F) := StableHlo.unary main_v4 main_v5
  ((transpose S2x16x256x8x8x128 [0, 1, 2, 4, 3, 5] · transposes_S2x16x256x8x8x128_S2x16x256x8x8x128_0_1_2_4_3_5) : (⟨S2x16x256x8x8x128, .f32⟩ : BufTy).Contents (Elt F) → (⟨S2x16x256x8x8x128, .f32⟩ : BufTy).Contents (Elt F))
abbrev op6 : HloOp τ sig (Elt F) := StableHlo.reshape main_v5 main_v6 (rfl : (.f32 : EltTy) = .f32) shapeCasts_S2x16x256x8x8x128_S2x16x2048x1024

/-- The arrays' contents: at the launch, before the call, after it, at the end. -/
def V0 (d : Dev nD) : Valuation τ sig (Elt F) := fun b => m (d, b)
def V3 (d : Dev nD) : Valuation τ sig (Elt F) := op2.result (op1.result (op0.result (V0 m d)))
def flatIn (d : Dev nD) : Buf (Elt F) (iLoc d) := V3 m d (rf main_v2)
def V4 (d : Dev nD) : Valuation τ sig (Elt F) := Function.update (V3 m d) (rf main_v3) (done (flatIn m) d)
def V7 (d : Dev nD) : Valuation τ sig (Elt F) := op6.result (op5.result (op4.result (V4 m d)))

/-- The call's parts at this launch. -/
abbrev PP : (K (F := F)).Pay (nD := nD) (Val := Elt F) (Name := ℕ) (U := UU) := P (flatIn m) (fun d => V3 m d (rf main_v3))

abbrev all : Finset (DevRef τ sig) :=
  {rf main_arg0, rf main_v0, rf main_v1, rf main_v2, rf main_v3, rf main_v4, rf main_v5, rf main_v6}
abbrev two : Finset (DevRef τ sig) := {rf main_v2, rf main_v3}
abbrev ends : Finset (DevRef τ sig) := {rf main_arg0, rf main_v6}

theorem sub0 : (op0 (F := F)).bufs ⊆ all := show ({rf main_arg0, rf main_v0} : Finset (DevRef τ sig)) ⊆ all by decide
theorem sub1 : (op1 (F := F)).bufs ⊆ all := show ({rf main_v0, rf main_v1} : Finset (DevRef τ sig)) ⊆ all by decide
theorem sub2 : (op2 (F := F)).bufs ⊆ all := show ({rf main_v1, rf main_v2} : Finset (DevRef τ sig)) ⊆ all by decide
theorem sub4 : (op4 (F := F)).bufs ⊆ all := show ({rf main_v3, rf main_v4} : Finset (DevRef τ sig)) ⊆ all by decide
theorem sub5 : (op5 (F := F)).bufs ⊆ all := show ({rf main_v4, rf main_v5} : Finset (DevRef τ sig)) ⊆ all by decide
theorem sub6 : (op6 (F := F)).bufs ⊆ all := show ({rf main_v5, rf main_v6} : Finset (DevRef τ sig)) ⊆ all by decide

theorem unscoped_all (d : Dev nD) : (unscopedBufs d (fun b => m ((SparseCore.T d).loc b)) : sProp 𝕄) = held (SparseCore.T d) all (V0 m d) := by
  unfold unscopedBufs held
  rw [show (Finset.univ.filter fun b : Ref sig .tc => ¬ b.isScoped) = {main_arg0, main_v0, main_v1, main_v2, main_v3, main_v4, main_v5, main_v6} by decide]
  simp (discharger := decide) only [SparseCore.bigSep_insert', bigSep_singleton]
  rfl

theorem held_two (d : Dev nD) (W : Valuation τ sig (Elt F)) :
    (held (SparseCore.T d) two W : sProp 𝕄) = iprop((iLoc d ↦{fullShare} W (rf main_v2)) ∗ (oLoc d ↦{fullShare} W (rf main_v3))) := by
  unfold held two
  rw [SparseCore.bigSep_insert' (by decide), bigSep_singleton]

theorem held_ends (d : Dev nD) (W : Valuation τ sig (Elt F)) :
    (held (SparseCore.T d) ends W : sProp 𝕄) = iprop(((SparseCore.T d).loc main_arg0 ↦{fullShare} W (rf main_arg0)) ∗ ((SparseCore.T d).loc main_v6 ↦{fullShare} W (rf main_v6))) := by
  unfold held ends
  rw [SparseCore.bigSep_insert' (by decide), bigSep_singleton]

theorem V4_in (d : Dev nD) : V4 m d (rf main_v2) = flatIn m d := Function.update_of_ne (show rf main_v2 ≠ rf main_v3 by decide) _ _
theorem V4_out (d : Dev nD) : V4 m d (rf main_v3) = done (flatIn m) d := Function.update_self _ _ _
theorem V4_rest (d : Dev nD) : (held (SparseCore.T d) (all \ two) (V3 m d) : sProp 𝕄) = held (SparseCore.T d) (all \ two) (V4 m d) := by
  refine held_congr _ fun b hb => (Function.update_of_ne (fun e => ?_) _ _).symm
  subst e
  exact absurd hb (by decide)

theorem V7_arg (d : Dev nD) : V7 m d (rf main_arg0) = m ((SparseCore.T d).loc main_arg0) := by
  have h3 : V3 m d (rf main_arg0) = m ((SparseCore.T d).loc main_arg0) := by
    unfold V3
    rw [StableHlo.result_of_writes_ne _ _ main_v2 main_arg0 rfl (by decide), StableHlo.result_of_writes_ne _ _ main_v1 main_arg0 rfl (by decide),
    StableHlo.result_of_writes_ne _ _ main_v0 main_arg0 rfl (by decide)]
    rfl
  unfold V7
  rw [StableHlo.result_of_writes_ne _ _ main_v6 main_arg0 rfl (by decide), StableHlo.result_of_writes_ne _ _ main_v5 main_arg0 rfl (by decide),
    StableHlo.result_of_writes_ne _ _ main_v4 main_arg0 rfl (by decide)]
  exact (Function.update_of_ne (show rf main_arg0 ≠ rf main_v3 by decide) _ _).trans h3

/-- What the call takes, out of everything held before it, and the two arrays the end reads. -/
theorem cut_two (d : Dev nD) : (held (SparseCore.T d) all (op2.result (op1.result (op0.result (V0 m d)))) : sProp 𝕄)
    = iprop(held (SparseCore.T d) two (V3 m d) ∗ held (SparseCore.T d) (all \ two) (V3 m d)) := held_sub_split _ (by decide) (V3 m d)
theorem cut_ends (d : Dev nD) : (held (SparseCore.T d) all (op6.result (op5.result (op4.result (V4 m d)))) : sProp 𝕄)
    = iprop(held (SparseCore.T d) ends (V7 m d) ∗ held (SparseCore.T d) (all \ ends) (V7 m d)) := held_sub_split _ (by decide) (V7 m d)

theorem back (d : Dev nD) : (bigSep Finset.univ fun c : Fin ((K (F := F)).nCore 0) => (PP m).dn 0 d c)
    = iprop((iLoc d ↦{fullShare} flatIn m d) ∗ (oLoc d ↦{fullShare} done (flatIn m) d)) := part_all (flatIn m) d (done (flatIn m) d)

/-- The last contents keep the argument; the result is read off them. -/
abbrev FIN (d : Dev nD) : sProp 𝕄 :=
  iprop(((SparseCore.T d).loc main_arg0 ↦{fullShare} m ((SparseCore.T d).loc main_arg0)) ∗ ((SparseCore.T d).loc main_v6 ↦{fullShare} V7 m d (rf main_v6)))

theorem line (κ : GSem nD τ sig → ℕ) (d : Dev nD) :
    (iprop((K (F := F)).ctx EH (PP m) κ ∗ (K (F := F)).tcSt EH d 0 ∗ (K (F := F)).tcRes m ρ d ∗ emp) : sProp 𝕄)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_all]
  simp only [main, wp_bind, wp_pure]
  iintro ⟨#Hctx, Hst, ⟨Hb, Hheld, Hts, -⟩, -⟩
  iapply (wp_hlo_within 𝒱 (SparseCore.T d) none Set.univ (op := op0) (S := all) sub0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := all) sub1) $$ [Hb Hheld]
  · isplitl [Hb]; · iexact Hb
    iexact Hheld
  iintro ⟨Hb, Hheld⟩
  rw [wp_ret]; imodintro
  iapply (wp_hlo_within 𝒱 (SparseCore.T d) none Set.univ (op := op2) (S := all) sub2) $$ [Hb Hheld]
  · isplitl [Hb]; · iexact Hb
    iexact Hheld
  iintro ⟨Hb, Hheld⟩
  rw [wp_ret]; imodintro
  -- the call
  ihave Hh := (Entails.of_eq (cut_two m d)) $$ Hheld
  icases Hh with ⟨Hh, Hrest⟩
  ihave Hh := (Entails.of_eq (held_two d (V3 m d))) $$ Hh
  icases Hh with ⟨Hi, Ho⟩
  iapply ((K (F := F)).wp_run (D (F := F)) 𝒱 (EH := EH) (P := PP m) κ d 0) $$ [Hst Hi Ho Hb Hrest Hts]
  isplitr; · iexact Hctx
  isplitl [Hst]; · iexact Hst
  isplitl [Hi Ho]
  · iapply (Entails.of_eq (part_all (flatIn m) d (V3 m d (rf main_v3))).symm)
    isplitl [Hi]; · iexact Hi
    iexact Ho
  iintro ⟨Hst, Hdn⟩
  ihave Hdn := (Entails.of_eq (back m d)) $$ Hdn
  ihave Hrest := (Entails.of_eq (V4_rest m d)) $$ Hrest
  ihave Hh := (Entails.of_eq (show (iprop((iLoc d ↦{fullShare} flatIn m d) ∗ (oLoc d ↦{fullShare} done (flatIn m) d)) : sProp 𝕄) = held (SparseCore.T d) two (V4 m d) by
    rw [held_two, V4_in, V4_out])) $$ Hdn
  ihave Hheld := (Entails.of_eq (held_sub_split (SparseCore.T d) (T := two) (S := all) (by decide) (V4 m d)).symm) $$ [Hh Hrest]
  · isplitl [Hh]; · iexact Hh
    iexact Hrest
  iapply (wp_hlo_within 𝒱 (SparseCore.T d) none Set.univ (op := op4) (S := all) sub4 (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := all) sub5) $$ [Hb Hheld]
  · isplitl [Hb]; · iexact Hb
    iexact Hheld
  iintro ⟨Hb, Hheld⟩
  rw [wp_ret]; imodintro
  iapply (wp_hlo_within 𝒱 (SparseCore.T d) none Set.univ (op := op6) (S := all) sub6) $$ [Hb Hheld]
  · isplitl [Hb]; · iexact Hb
    iexact Hheld
  iintro ⟨Hb, Hheld⟩
  rw [wp_ret]; imodintro; imodintro
  ihave Hh := (Entails.of_eq (cut_ends m d)) $$ Hheld
  icases Hh with ⟨Hh, -⟩
  ihave Hh := (Entails.of_eq ((held_ends d (V7 m d)).trans (by rw [V7_arg]))) $$ Hh
  isplitl [Hst]; · iexact Hst
  isplitl [Hh]; · iexact Hh
  isplitl [Hb] <;> iassumption

/-- What a device's memory shows at the end. -/
def Shows (d : Dev nD) (s' : Phys nD τ sig (Elt F)) : Prop :=
  s'.mem.mem ((SparseCore.T d).loc main_arg0) = m ((SparseCore.T d).loc main_arg0) ∧ s'.mem.mem ((SparseCore.T d).loc main_v6) = V7 m d (rf main_v6)

set_option maxRecDepth 16384 in
theorem shows_fin (d : Dev nD) (s' : Phys nD τ sig (Elt F)) : iprop(FIN m d ∗ SI s') ⊢ (⌜Shows m d s'⌝ : sProp 𝕄) := by
  iintro ⟨⟨Ha, Hr⟩, HSI⟩
  ihave H := (persistent_entails_right (SI_pointsTo_agree (st := s') (ℓ := (SparseCore.T d).loc main_arg0) (I := Finset.univ) (q := fullShare)
    (f := m ((SparseCore.T d).loc main_arg0)))) $$ [HSI Ha]
  · isplitl [HSI] <;> iassumption
  icases H with ⟨%ha, HSI, -⟩
  ihave H := (SI_pointsTo_agree (st := s') (ℓ := (SparseCore.T d).loc main_v6) (I := Finset.univ) (q := fullShare) (f := V7 m d (rf main_v6))) $$ [HSI Hr]
  · isplitl [HSI] <;> iassumption
  icases H with %hr
  ipureintro
  exact ⟨funext fun i => ha i (Finset.mem_univ i), funext fun i => hr i (Finset.mem_univ i)⟩

/-- The mesh's run: the argument kept, the result as computed, every counter at zero. -/
def Ends : PUnit × MemSt nD τ sig (Elt F) → Prop := fun r =>
  (∀ d : Dev nD, r.2.mem ((SparseCore.T d).loc main_arg0) = m ((SparseCore.T d).loc main_arg0) ∧ r.2.mem ((SparseCore.T d).loc main_v6) = V7 m d (rf main_v6))
    ∧ r.2.sem = fun _ => 0

theorem run_main [∀ e, Nonempty (Elt F e)] (hc : ∀ v : F .f32, (code v).toNat < 16) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := PP m) (A := ∅) Cert.Proof.Spike.facts v₀
    (fun q hq => match q with | 0 => nomatch hq)
    (fun q _ => match q with | 0 => obligation _ _ Cert.Proof.Spike.facts hc)
    (fun q _ => match q with | 0 => SparseCore.Cfg.VecSplit.of_plain (split _ _))
    m ρ main (fun _ => iprop(emp)) (FIN m) (u₀ (F := F)) (sep_elim_left.trans (start_ghost _ _)) (line m ρ) (Shows m) (shows_fin m) (Ends m)
    (fun _ h hz => ⟨h, hz⟩)

end Cert.Proof.Spike

end
-- ==== Proof.Sigmoid.lean ====
/-
  The word of one element over the extended reals: the kernel's quotient is 1 / (1 + exp (-v)) at every v, that number
  lies between 0 and 1, and fifteen times it cuts down to a word below sixteen.
-/
module

public import proofs.«01_k».proof.Proof.Base
public import Idealize.ShloMosaic.Lib.IdealHost

@[expose] public section

noncomputable section

namespace Cert.Proof.Spike

open Cert.KernelIdeal Cert.KernelIdeal.Gen
open Idealize.ShloMosaic

/-- 1 / (1 + exp (-v)), in the reference's spelling. -/
def squash (v : EReal) : EReal := Ideal.div 1 (1 + Ideal.exp (-v))

/-- The same number in the kernel's spelling: its exponential is taken of a number that is never positive. -/
def folded (v : EReal) : EReal :=
  Ideal.div (if 0 ≤ v then 1 else Ideal.exp (0 - max v (-v))) (1 + Ideal.exp (0 - max v (-v)))

/-- The constant fifteen. -/
def fifteen : EReal := Ideal.ofBits .f32 0x41700000#32

/-- The word of one element, in the reference's spelling. -/
def step (v : EReal) : BitVec 32 := Ideal.fptosi 32 (squash v * fifteen)

theorem fifteen_eq : fifteen = ((15 : ℝ) : EReal) := by
  unfold fifteen
  simp [Ideal.ofBits, Ideal.ieee, -EReal.coe_mul]; norm_num

/-- A real over one plus a nonnegative real. -/
theorem div_one_add (a b : ℝ) (hb : 0 ≤ b) : Ideal.div (a : EReal) (1 + (b : EReal)) = ((a / (1 + b) : ℝ) : EReal) := by
  rw [show (1 : EReal) + (b : EReal) = ((1 + b : ℝ) : EReal) by push_cast; rfl, Ideal.div_coe (by positivity), ← EReal.coe_mul, mul_one_div]

theorem squash_coe (r : ℝ) : squash (r : EReal) = ((1 / (1 + Real.exp (-r)) : ℝ) : EReal) := by
  unfold squash
  rw [← EReal.coe_neg, Ideal.exp_coe, ← EReal.coe_one, EReal.coe_one, ← EReal.coe_one]
  exact div_one_add 1 _ (Real.exp_pos _).le

theorem squash_top : squash ⊤ = ((1 : ℝ) : EReal) := by
  have h := div_one_add 1 0 le_rfl
  unfold squash
  rw [EReal.neg_top, Ideal.exp_bot]
  simpa using h

theorem squash_bot : squash ⊥ = ((0 : ℝ) : EReal) := by
  unfold squash
  rw [EReal.neg_bot, Ideal.exp_top, EReal.add_top_of_ne_bot (by decide), Ideal.div, if_neg (by decide), EReal.inv_top]
  simp

/-- Both spellings name one number. -/
theorem folded_eq (v : EReal) : folded v = squash v := by
  induction v with
  | top =>
    rw [squash_top]; unfold folded
    have h := div_one_add 1 0 le_rfl
    rw [if_pos le_top, EReal.neg_top, max_eq_left bot_le, EReal.sub_top, Ideal.exp_bot]
    simpa using h
  | bot =>
    rw [squash_bot]; unfold folded
    have h := div_one_add 0 0 le_rfl
    rw [if_neg (by decide), EReal.neg_bot, max_eq_right bot_le, EReal.sub_top, Ideal.exp_bot]
    simpa using h
  | coe r =>
    rw [squash_coe]; unfold folded
    by_cases h : 0 ≤ r
    · rw [if_pos (by exact_mod_cast h), ← EReal.coe_neg, max_eq_left (by exact_mod_cast (by linarith : -r ≤ r)), zero_sub, ← EReal.coe_neg,
        Ideal.exp_coe, ← EReal.coe_one]
      exact div_one_add 1 _ (Real.exp_pos _).le
    · have h' : r < 0 := not_le.1 h
      rw [if_neg (by exact_mod_cast h), ← EReal.coe_neg, max_eq_right (by exact_mod_cast (by linarith : r ≤ -r)), zero_sub, ← EReal.coe_neg,
        Ideal.exp_coe, neg_neg]
      refine (div_one_add _ _ (Real.exp_pos _).le).trans (congrArg _ ?_)
      rw [Real.exp_neg]
      have := Real.exp_pos r
      field_simp
      ring

/-- The number lies between 0 and 1. -/
theorem squash_unit (v : EReal) : ∃ s : ℝ, squash v = (s : EReal) ∧ 0 ≤ s ∧ s ≤ 1 := by
  induction v with
  | top => exact ⟨1, squash_top, zero_le_one, le_rfl⟩
  | bot => exact ⟨0, squash_bot, le_rfl, zero_le_one⟩
  | coe r =>
    have := Real.exp_pos (-r)
    exact ⟨_, squash_coe r, by positivity, by rw [div_le_one (by positivity)]; linarith⟩

/-- The word is below sixteen. -/
theorem step_lt (v : EReal) : (step v).toNat < 16 := by
  obtain ⟨s, hs, h0, h1⟩ := squash_unit v
  unfold step
  rw [hs, fifteen_eq, ← EReal.coe_mul]
  have hp : (0 : ℝ) ≤ s * 15 := by positivity
  have hn : (0 : ℤ) ≤ ⌊s * 15⌋ := Int.floor_nonneg.2 hp
  have hm : ⌊s * 15⌋ ≤ 15 := by
    have : ((⌊s * 15⌋ : ℤ) : ℝ) ≤ 15 := (Int.floor_le _).trans (by linarith)
    exact_mod_cast this
  show (BitVec.ofInt 32 (max _ (min _ (if 0 ≤ s * 15 then ⌊s * 15⌋ else ⌈s * 15⌉)))).toNat < 16
  rw [if_pos hp]
  generalize ⌊s * 15⌋ = z at hn hm
  rw [min_eq_right (by norm_num; omega), max_eq_right (by norm_num; omega), BitVec.toNat_ofInt]
  omega

/-- The kernel's word is the reference's. -/
theorem code_eq (v : Ideal .f32) : code (F := Ideal) v = step v := by
  unfold step
  rw [← folded_eq]
  unfold code k0_pay2 folded fifteen
  show Ideal.fptosi 32 (Ideal.div (Scalar.select (Ideal.cmp .oge v (Ideal.ofBits .f32 0#32)) (Ideal.ofBits .f32 0x3F800000#32)
    (Ideal.exp (Ideal.ofBits .f32 0#32 - max v (-v)))) (Ideal.ofBits .f32 0x3F800000#32 + Ideal.exp (Ideal.ofBits .f32 0#32 - max v (-v)))
      * Ideal.ofBits .f32 0x41700000#32) = _
  have hz : Ideal.ofBits .f32 0#32 = 0 := by simp [Ideal.ofBits, Ideal.ieee]
  rw [hz, Ideal.ofBits_one_f32]
  unfold Scalar.select Ideal.cmp
  by_cases h : (0 : EReal) ≤ v <;> simp [h]

theorem code_lt (v : Ideal .f32) : (code (F := Ideal) v).toNat < 16 := by rw [code_eq]; exact step_lt v

end Cert.Proof.Spike

end
-- ==== Proof.Value.lean ====
/-
  What the launch leaves in the result, element by element: the host's reshapes and transposes on both sides of the call
  cancel, so the element at batch b, time t, row s and column d is one exactly where the word of x (b, s, d) is t.
-/
module

public import proofs.«01_k».proof.Proof.Launch
public import Idealize.ShloMosaic.Lib.Pipeline.Value
public import Idealize.ShloMosaic.Lib.Pointwise.Reshape

@[expose] public section

noncomputable section

namespace Cert.Proof.Spike

open Cert.KernelIdeal Cert.KernelIdeal.Gen
open Idealize.ShloMosaic

variable {F : FTy → Type} [FloatOps F]

/-- The place of the argument that decides place `z` of the result: the same batch, row and column. -/
def source (z : S2x16x2048x1024.Idx) : S2x2048x1024.Idx := fun
  | 0 => ⟨(z 0).val, (z 0).isLt⟩
  | 1 => ⟨(z 2).val, (z 2).isLt⟩
  | 2 => ⟨(z 3).val, (z 3).isLt⟩

/-- The result as a function of the argument: one at the time each element's word names, zero at every other time. -/
def hot (x : S2x2048x1024.Idx → F .f32) : S2x16x2048x1024.Idx → F .f32 := fun z =>
  if (z 1).val = (code (x (source z))).toNat then one else zero

/-! ## The way out -/

/-- Place `z` of the result in tiles of eight rows and 128 columns. -/
def tiled (z : S2x16x2048x1024.Idx) : S2x16x256x8x8x128.Idx := fun
  | 0 => ⟨(z 0).val, (z 0).isLt⟩
  | 1 => ⟨(z 1).val, (z 1).isLt⟩
  | 2 => ⟨(z 2).val / 8, by have : (z 2).val < 2048 := (z 2).isLt; show _ < 256; omega⟩
  | 3 => ⟨(z 2).val % 8, Nat.mod_lt _ (by decide)⟩
  | 4 => ⟨(z 3).val / 128, by have : (z 3).val < 1024 := (z 3).isLt; show _ < 8; omega⟩
  | 5 => ⟨(z 3).val % 128, Nat.mod_lt _ (by decide)⟩

/-- The same place with the tile's column before the row inside it. -/
def swapped (z : S2x16x2048x1024.Idx) : S2x16x256x8x8x128.Idx := fun
  | 0 => tiled z 0
  | 1 => tiled z 1
  | 2 => tiled z 2
  | 3 => tiled z 4
  | 4 => tiled z 3
  | 5 => tiled z 5

/-- The row of 128 elements it lies in, counted inside its batch and time. -/
def rowOf (z : S2x16x2048x1024.Idx) : ℕ := 64 * ((z 2).val / 8) + 8 * ((z 3).val / 128) + (z 2).val % 8

theorem rowOf_lt (z : S2x16x2048x1024.Idx) : rowOf z < 16384 := by
  have : (z 2).val < 2048 := (z 2).isLt
  have : (z 3).val < 1024 := (z 3).isLt
  unfold rowOf; omega

/-- The place of the call's output it is read from. -/
def place (z : S2x16x2048x1024.Idx) : S32x16384x128.Idx := fun
  | 0 => ⟨16 * (z 0).val + (z 1).val, by have : (z 0).val < 2 := (z 0).isLt; have : (z 1).val < 16 := (z 1).isLt; show _ < 32; omega⟩
  | 1 => ⟨rowOf z, rowOf_lt z⟩
  | 2 => ⟨(z 3).val % 128, Nat.mod_lt _ (by decide)⟩

theorem untile {α : Type} (x : S2x16x256x8x8x128.Idx → α) (h) (z : S2x16x2048x1024.Idx) :
    shapeCast S2x16x2048x1024 x h z = x (tiled z) := by
  refine shapeCast_apply x h z _ ?_
  rw [rowMajor_val6 _ _ _ _ _ _ rfl rfl rfl rfl rfl, rowMajor_val4 _ _ _ _ rfl rfl rfl]
  show (z 0).val * 33554432 + (z 1).val * 2097152 + (z 2).val / 8 * 8192 + (z 2).val % 8 * 1024 + (z 3).val / 128 * 128 + (z 3).val % 128
    = (z 0).val * 33554432 + (z 1).val * 2097152 + (z 2).val * 1024 + (z 3).val
  omega

theorem unswap {α : Type} (x : S2x16x256x8x8x128.Idx → α) (h) (z : S2x16x2048x1024.Idx) :
    transpose S2x16x256x8x8x128 [0, 1, 2, 4, 3, 5] x h (tiled z) = x (swapped z) := by
  refine transpose_apply _ x h _ _ fun b => ?_
  fin_cases b <;> rfl

theorem unflatten {α : Type} (x : S32x16384x128.Idx → α) (h) (z : S2x16x2048x1024.Idx) :
    shapeCast S2x16x256x8x8x128 x h (swapped z) = x (place z) := by
  refine shapeCast_apply x h _ _ ?_
  rw [rowMajor_val6 _ _ _ _ _ _ rfl rfl rfl rfl rfl, rowMajor_val3 _ _ _ rfl rfl]
  show (16 * (z 0).val + (z 1).val) * 2097152 + rowOf z * 128 + (z 3).val % 128
    = (z 0).val * 33554432 + (z 1).val * 2097152 + (z 2).val / 8 * 8192 + (z 3).val / 128 * 1024 + (z 2).val % 8 * 128 + (z 3).val % 128
  unfold rowOf
  omega

/-! ## The way in -/

/-- The place of the argument deciding `z`, in tiles, the tile's column before the row inside it. -/
def inSwapped (z : S2x16x2048x1024.Idx) : S2x256x8x8x128.Idx := fun
  | 0 => ⟨(z 0).val, (z 0).isLt⟩
  | 1 => tiled z 2
  | 2 => tiled z 4
  | 3 => tiled z 3
  | 4 => tiled z 5

/-- The same place with the row first. -/
def inTiled (z : S2x16x2048x1024.Idx) : S2x256x8x8x128.Idx := fun
  | 0 => ⟨(z 0).val, (z 0).isLt⟩
  | 1 => tiled z 2
  | 2 => tiled z 3
  | 3 => tiled z 4
  | 4 => tiled z 5

/-- Its number in the flat input. -/
def inPos (z : S2x16x2048x1024.Idx) : ℕ := 2097152 * (z 0).val + 128 * rowOf z + (z 3).val % 128

theorem inPos_lt (z : S2x16x2048x1024.Idx) : inPos z < 4194304 := by
  have : (z 0).val < 2 := (z 0).isLt
  have := rowOf_lt z
  unfold inPos; omega

theorem inFlat {α : Type} (x : S2x256x8x8x128.Idx → α) (h) (z : S2x16x2048x1024.Idx) :
    shapeCast S4194304 x h (inAt (inPos z) (inPos_lt z)) = x (inSwapped z) := by
  refine shapeCast_apply x h _ _ ?_
  rw [rowMajor_val5 _ _ _ _ _ rfl rfl rfl rfl, rowMajor_val1]
  show (z 0).val * 2097152 + (z 2).val / 8 * 8192 + (z 3).val / 128 * 1024 + (z 2).val % 8 * 128 + (z 3).val % 128 = inPos z
  unfold inPos rowOf
  omega

theorem inSwap {α : Type} (x : S2x256x8x8x128.Idx → α) (h) (z : S2x16x2048x1024.Idx) :
    transpose S2x256x8x8x128 [0, 1, 3, 2, 4] x h (inSwapped z) = x (inTiled z) := by
  refine transpose_apply _ x h _ _ fun b => ?_
  fin_cases b <;> rfl

theorem inTile {α : Type} (x : S2x2048x1024.Idx → α) (h) (z : S2x16x2048x1024.Idx) :
    shapeCast S2x256x8x8x128 x h (inTiled z) = x (source z) := by
  refine shapeCast_apply x h _ _ ?_
  rw [rowMajor_val5 _ _ _ _ _ rfl rfl rfl rfl, rowMajor_val3 _ _ _ rfl rfl]
  show (z 0).val * 2097152 + (z 2).val * 1024 + (z 3).val
    = (z 0).val * 2097152 + (z 2).val / 8 * 8192 + (z 2).val % 8 * 1024 + (z 3).val / 128 * 128 + (z 3).val % 128
  omega

/-! ## The tiles' output, read at such a place -/

theorem chunk_place (fin : S4194304.Idx → F .f32) (n k : ℕ) (hk : k < 4194304) (x : S2048.Idx) (h : 2048 * n + (x 0).val = k) :
    chunk fin n x = fin (inAt k hk) := by
  subst h
  exact dif_pos hk

theorem outOf_place (fin : S4194304.Idx → F .f32) (z : S2x16x2048x1024.Idx) :
    outOf fin (place z) = if (z 1).val = (code (fin (inAt (inPos z) (inPos_lt z)))).toNat then one else zero := by
  have h1 : (z 1).val < 16 := (z 1).isLt
  have hr := rowOf_lt z
  have hq : 2048 * (1024 * ((16 * (z 0).val + (z 1).val) / 16) + rowOf z / 16) + (128 * (rowOf z % 16) + (z 3).val % 128) = inPos z := by
    unfold inPos; omega
  have ht : (16 * (z 0).val + (z 1).val) % 16 = (z 1).val := by omega
  unfold outOf spikes
  exact if_congr (Eq.congr ht (congrArg (fun v => (code v).toNat) (chunk_place fin _ _ (inPos_lt z) _ hq))) rfl rfl

/-! ## The result -/

variable (m : (ℓ : Loc nD τ sig) → Buf (Elt F) ℓ)

theorem flatIn_apply (d : Dev nD) (z : S2x16x2048x1024.Idx) :
    flatIn m d (inAt (inPos z) (inPos_lt z)) = m ((SparseCore.T d).loc main_arg0) (source z) := by
  unfold flatIn V3
  refine (congrFun (StableHlo.reshape_result main_v1 main_v2 _ _ _ _ _) _).trans ?_
  refine (inFlat _ _ z).trans ?_
  refine (congrFun (StableHlo.unary_result main_v0 main_v1 _ _ _ _) _).trans ?_
  refine (inSwap _ _ z).trans ?_
  refine (congrFun (StableHlo.reshape_result main_arg0 main_v0 _ _ _ _ _) _).trans ?_
  exact inTile _ _ z

theorem V7_result (d : Dev nD) : V7 m d (rf main_v6) = hot (F := F) (m ((SparseCore.T d).loc main_arg0)) := by
  funext z
  unfold V7
  refine (congrFun (StableHlo.reshape_result main_v5 main_v6 _ _ _ _ _) z).trans ?_
  refine (untile _ _ z).trans ?_
  refine (congrFun (StableHlo.unary_result main_v4 main_v5 _ _ _ _) _).trans ?_
  refine (unswap _ _ z).trans ?_
  refine (congrFun (StableHlo.reshape_result main_v3 main_v4 _ _ _ _ _) _).trans ?_
  refine (unflatten _ _ z).trans ?_
  refine (congrFun (V4_out m d) (place z)).trans ?_
  refine (outOf_place _ z).trans ?_
  unfold hot
  rw [flatIn_apply]

end Cert.Proof.Spike

end
-- ==== Proof.Target.lean ====
/-
  The reference's value over the extended reals, element by element: its scatter lands each element's one at the time its
  word names, and every other place keeps the zero it started from.
-/
module

public import proofs.«01_k».proof.Proof.Gen.ReferenceIdeal.Run
public import proofs.«01_k».proof.Proof.Sigmoid
public import proofs.«01_k».proof.Proof.Value
public import Idealize.ShloMosaic.Lib.Routing.OpsSet
public import Idealize.ShloMosaic.Lib.IdealHost

@[expose] public section

noncomputable section

namespace Cert.Proof.Target

open Cert.ReferenceIdeal Cert.ReferenceIdeal.Gen
open Idealize.ShloMosaic
open Idealize.ShloMosaic.WordCmp (toInt_ofNat_of_lt toInt_eq_toNat_of_lt_half)
open Idealize.ShloMosaic.Routing (resultIdx?_eq_some scatter_set_hit scatter_set_miss wrap_of_lt)
open Cert.Proof.Spike (step step_lt hot source one zero code code_eq)

/-- The scatter's dimension numbers. -/
abbrev D := scatter_S2x16x2048x1024_S2x2048x1024x4_S2x2048x1024_n_0123_0123_3

/-- Where update `k` reads component `a` of its place. -/
def quad (k : S2x2048x1024.Idx) (a : Fin 4) : S2x2048x1024x4.Idx := fun
  | 0 => ⟨(k 0).val, (k 0).isLt⟩
  | 1 => ⟨(k 1).val, (k 1).isLt⟩
  | 2 => ⟨(k 2).val, (k 2).isLt⟩
  | 3 => ⟨a.val, a.isLt⟩

/-- The same place in a column of its own. -/
def single (k : S2x2048x1024.Idx) : S2x2048x1024x1.Idx := fun
  | 0 => ⟨(k 0).val, (k 0).isLt⟩
  | 1 => ⟨(k 1).val, (k 1).isLt⟩
  | 2 => ⟨(k 2).val, (k 2).isLt⟩
  | 3 => ⟨0, Nat.one_pos⟩

theorem start_eq (k : S2x2048x1024.Idx) (idx : IVec S2x2048x1024x4 32) (a : Fin 4) :
    D.start k idx a = (idx (quad k a)).toInt := by
  have ha : a ∈ D.scatterDimsToOperandDims := by
    show a ∈ ([0, 1, 2, 3] : List (Fin 4))
    fin_cases a <;> decide
  unfold ScatterDims.start
  rw [dif_pos ha]
  refine congrArg (fun i => (idx i).toInt) (funext fun b => Fin.ext ?_)
  fin_cases a <;> fin_cases b <;> rfl

theorem window_eq (k : S2x2048x1024.Idx) (a : Fin 4) : D.window k a = 0 := by
  unfold ScatterDims.window
  exact dif_neg (by fin_cases a <;> decide)

/-- Update `k` lands at `z` exactly when its four components are `z`'s coordinates. -/
theorem lands (k : S2x2048x1024.Idx) (idx : IVec S2x2048x1024x4 32) (z : S2x16x2048x1024.Idx) :
    D.resultIdx? k idx = some z ↔ ∀ a : Fin 4, (idx (quad k a)).toInt = ((z a).val : ℤ) := by
  rw [resultIdx?_eq_some]
  refine forall_congr' fun a => ?_
  rw [start_eq, window_eq]
  simp

/-! ## The table of places -/

/-- The four columns side by side. -/
def table (u0 u1 u2 u3 : IVec S2x2048x1024x1 32) : IVec S2x2048x1024x4 32 :=
  concatenate S2x2048x1024x4 3 [⟨S2x2048x1024x1, u0⟩, ⟨S2x2048x1024x1, u1⟩, ⟨S2x2048x1024x1, u2⟩, ⟨S2x2048x1024x1, u3⟩]
    concatenates_S2x2048x1024x1_S2x2048x1024x1_S2x2048x1024x1_S2x2048x1024x1_S2x2048x1024x4_d3

theorem table_apply (u0 u1 u2 u3 : IVec S2x2048x1024x1 32) (k : S2x2048x1024.Idx) (a : Fin 4) :
    table u0 u1 u2 u3 (quad k a) = (![u0, u1, u2, u3] a) (single k) := by
  have off : ∀ (a : Fin 4) (b : Fin 4), b ≠ 3 → (single k b).val = (quad k a b).val := fun a b hb => by
    fin_cases b <;> first | rfl | exact absurd rfl hb
  unfold table
  match a with
  | 0 => exact concatenate_apply_piece (t := S2x2048x1024x4) 3 [⟨S2x2048x1024x1, u0⟩, ⟨S2x2048x1024x1, u1⟩, ⟨S2x2048x1024x1, u2⟩, ⟨S2x2048x1024x1, u3⟩] _ (quad k 0) 0
            (show 0 < 4 by decide) S2x2048x1024x1 u0 rfl rfl 0 rfl (single k) (fun b hb => off 0 b hb) rfl
  | 1 => exact concatenate_apply_piece (t := S2x2048x1024x4) 3 [⟨S2x2048x1024x1, u0⟩, ⟨S2x2048x1024x1, u1⟩, ⟨S2x2048x1024x1, u2⟩, ⟨S2x2048x1024x1, u3⟩] _ (quad k 1) 1
            (show 1 < 4 by decide) S2x2048x1024x1 u1 rfl rfl 1 rfl (single k) (fun b hb => off 1 b hb) rfl
  | 2 => exact concatenate_apply_piece (t := S2x2048x1024x4) 3 [⟨S2x2048x1024x1, u0⟩, ⟨S2x2048x1024x1, u1⟩, ⟨S2x2048x1024x1, u2⟩, ⟨S2x2048x1024x1, u3⟩] _ (quad k 2) 2
            (show 2 < 4 by decide) S2x2048x1024x1 u2 rfl rfl 2 rfl (single k) (fun b hb => off 2 b hb) rfl
  | 3 => exact concatenate_apply_piece (t := S2x2048x1024x4) 3 [⟨S2x2048x1024x1, u0⟩, ⟨S2x2048x1024x1, u1⟩, ⟨S2x2048x1024x1, u2⟩, ⟨S2x2048x1024x1, u3⟩] _ (quad k 3) 3
            (show 3 < 4 by decide) S2x2048x1024x1 u3 rfl rfl 3 rfl (single k) (fun b hb => off 3 b hb) rfl

/-- A table of one word per element, as a column. -/
def column (u : IVec S2x2048x1024 32) : IVec S2x2048x1024x1 32 :=
  broadcastInDim S2x2048x1024x1 ![0, 1, 2] bcast_S2x2048x1024_S2x2048x1024x1_0_1_2 u

theorem column_apply (u : IVec S2x2048x1024 32) (k : S2x2048x1024.Idx) : column u (single k) = u k :=
  broadcastInDim_apply _ _ u _ k fun b => by fin_cases b <;> rfl

/-- An index brought into range: `n` added where it is negative. -/
def wrapped {s : Shape} (h : S_.BroadcastsInDim s ![]) (n : BitVec 32) (u : IVec s 32) : IVec s 32 :=
  select (cmpi .slt u (broadcastInDim s ![] h (constantI S_ 32 0#32))) (addi u (broadcastInDim s ![] h (constantI S_ 32 n))) u

theorem wrapped_apply {s : Shape} (h : S_.BroadcastsInDim s ![]) (n : BitVec 32) (u : IVec s 32) (i : s.Idx) (hu : (u i).toNat < 2 ^ 31) :
    wrapped h n u i = u i := wrap_of_lt (u i) _ hu

/-- The batch, row and column of every element. -/
def batches : IVec S2x2048x1024 32 :=
  broadcastInDim S2x2048x1024 ![0, 1, 2] bcast_S2x1x1_S2x2048x1024_0_1_2
    (wrapped bcast_S_S2x1x1 2#32 (broadcastInDim S2x1x1 ![0] bcast_S2_S2x1x1_0 (iotaInDim S2 32 0)))
def rows : IVec S2x2048x1024 32 :=
  broadcastInDim S2x2048x1024 ![0, 1, 2] bcast_S1x2048x1_S2x2048x1024_0_1_2
    (wrapped bcast_S_S1x2048x1 2048#32 (broadcastInDim S1x2048x1 ![1] bcast_S2048_S1x2048x1_1 (iotaInDim S2048 32 0)))
def cols : IVec S2x2048x1024 32 :=
  broadcastInDim S2x2048x1024 ![0, 1, 2] bcast_S1x1x1024_S2x2048x1024_0_1_2
    (wrapped bcast_S_S1x1x1024 1024#32 (broadcastInDim S1x1x1024 ![2] bcast_S1024_S1x1x1024_2 (iotaInDim S1024 32 0)))

theorem small {n : ℕ} (h : n < 2048) : (BitVec.ofNat 32 n).toNat < 2 ^ 31 := by
  rw [BitVec.toNat_ofNat]; omega

theorem batches_apply (k : S2x2048x1024.Idx) : batches k = BitVec.ofNat 32 (k 0).val := by
  have hk : (k 0).val < 2 := (k 0).isLt
  let j : S2x1x1.Idx := fun | 0 => k 0 | 1 => ⟨0, Nat.one_pos⟩ | 2 => ⟨0, Nat.one_pos⟩
  let i : S2.Idx := fun | 0 => k 0
  have e : broadcastInDim S2x1x1 ![0] bcast_S2_S2x1x1_0 (iotaInDim S2 32 0) j = BitVec.ofNat 32 (k 0).val :=
    broadcastInDim_apply _ _ _ j i fun b => by fin_cases b; rfl
  refine (broadcastInDim_apply _ _ _ k j fun b => by fin_cases b <;> rfl).trans ?_
  exact (wrapped_apply _ _ _ j (by rw [e]; exact small (by omega))).trans e

theorem rows_apply (k : S2x2048x1024.Idx) : rows k = BitVec.ofNat 32 (k 1).val := by
  have hk : (k 1).val < 2048 := (k 1).isLt
  let j : S1x2048x1.Idx := fun | 0 => ⟨0, Nat.one_pos⟩ | 1 => k 1 | 2 => ⟨0, Nat.one_pos⟩
  let i : S2048.Idx := fun | 0 => k 1
  have e : broadcastInDim S1x2048x1 ![1] bcast_S2048_S1x2048x1_1 (iotaInDim S2048 32 0) j = BitVec.ofNat 32 (k 1).val :=
    broadcastInDim_apply _ _ _ j i fun b => by fin_cases b; rfl
  refine (broadcastInDim_apply _ _ _ k j fun b => by fin_cases b <;> rfl).trans ?_
  exact (wrapped_apply _ _ _ j (by rw [e]; exact small hk)).trans e

theorem cols_apply (k : S2x2048x1024.Idx) : cols k = BitVec.ofNat 32 (k 2).val := by
  have hk : (k 2).val < 1024 := (k 2).isLt
  let j : S1x1x1024.Idx := fun | 0 => ⟨0, Nat.one_pos⟩ | 1 => ⟨0, Nat.one_pos⟩ | 2 => k 2
  let i : S1024.Idx := fun | 0 => k 2
  have e : broadcastInDim S1x1x1024 ![2] bcast_S1024_S1x1x1024_2 (iotaInDim S1024 32 0) j = BitVec.ofNat 32 (k 2).val :=
    broadcastInDim_apply _ _ _ j i fun b => by fin_cases b; rfl
  refine (broadcastInDim_apply _ _ _ k j fun b => by fin_cases b <;> rfl).trans ?_
  exact (wrapped_apply _ _ _ j (by rw [e]; exact small (by omega))).trans e

/-! ## The times -/

/-- One number at every element. -/
abbrev full (b : BitVec 32) : FVec Ideal S2x2048x1024 .f32 :=
  broadcastInDim S2x2048x1024 ![] bcast_S_S2x2048x1024 (constant (F := Ideal) S_ .f32 b)

/-- The spike time of every element. -/
def times (x : FVec Ideal S2x2048x1024 .f32) : IVec S2x2048x1024 32 :=
  fptosi 32 (mulf (Host.divf (full 0x3F800000#32) (addf (full 0x3F800000#32) (Host.exp (Host.negf x)))) (full 0x41700000#32))

theorem times_apply (x : FVec Ideal S2x2048x1024 .f32) (k : S2x2048x1024.Idx) : times x k = step (x k) := by
  show Ideal.fptosi 32 (Ideal.div (Ideal.ofBits .f32 0x3F800000#32) (Ideal.ofBits .f32 0x3F800000#32 + Ideal.exp (-(x k)))
    * Ideal.ofBits .f32 0x41700000#32) = _
  rw [Ideal.ofBits_one_f32]
  rfl

/-! ## The result -/

/-- The table of places of the reference. -/
def places (x : FVec Ideal S2x2048x1024 .f32) : IVec S2x2048x1024x4 32 :=
  table (column batches) (column (wrapped bcast_S_S2x2048x1024 16#32 (times x))) (column rows) (column cols)

/-- Update `k` lands at `z` exactly when `z` is its batch, its spike time, its row and its column. -/
theorem lands_places (x : FVec Ideal S2x2048x1024 .f32) (k : S2x2048x1024.Idx) (z : S2x16x2048x1024.Idx) :
    D.resultIdx? k (places x) = some z
      ↔ (k 0).val = (z 0).val ∧ (step (x k)).toNat = (z 1).val ∧ (k 1).val = (z 2).val ∧ (k 2).val = (z 3).val := by
  have h0 : (k 0).val < 2 := (k 0).isLt
  have h1 : (k 1).val < 2048 := (k 1).isLt
  have h2 : (k 2).val < 1024 := (k 2).isLt
  have hs := step_lt (x k)
  have e0 : places x (quad k 0) = BitVec.ofNat 32 (k 0).val := (table_apply _ _ _ _ k 0).trans ((column_apply _ k).trans (batches_apply k))
  have e1 : places x (quad k 1) = step (x k) := (table_apply _ _ _ _ k 1).trans ((column_apply _ k).trans
    ((wrapped_apply _ _ _ k (by rw [times_apply]; omega)).trans (times_apply x k)))
  have e2 : places x (quad k 2) = BitVec.ofNat 32 (k 1).val := (table_apply _ _ _ _ k 2).trans ((column_apply _ k).trans (rows_apply k))
  have e3 : places x (quad k 3) = BitVec.ofNat 32 (k 2).val := (table_apply _ _ _ _ k 3).trans ((column_apply _ k).trans (cols_apply k))
  have t0 : (places x (quad k 0)).toInt = ((k 0).val : ℤ) := by rw [e0]; exact toInt_ofNat_of_lt (by omega)
  have t1 : (places x (quad k 1)).toInt = ((step (x k)).toNat : ℤ) := by rw [e1]; exact toInt_eq_toNat_of_lt_half (by omega)
  have t2 : (places x (quad k 2)).toInt = ((k 1).val : ℤ) := by rw [e2]; exact toInt_ofNat_of_lt (by omega)
  have t3 : (places x (quad k 3)).toInt = ((k 2).val : ℤ) := by rw [e3]; exact toInt_ofNat_of_lt (by omega)
  rw [lands]
  constructor
  · intro h
    exact ⟨by exact_mod_cast t0.symm.trans (h 0), by exact_mod_cast t1.symm.trans (h 1), by exact_mod_cast t2.symm.trans (h 2),
      by exact_mod_cast t3.symm.trans (h 3)⟩
  · rintro ⟨p0, p1, p2, p3⟩ a
    match a with
    | 0 => exact t0.trans (by exact_mod_cast p0)
    | 1 => exact t1.trans (by exact_mod_cast p1)
    | 2 => exact t2.trans (by exact_mod_cast p2)
    | 3 => exact t3.trans (by exact_mod_cast p3)

/-- The reference's result as a function of its argument. -/
def out (x : FVec Ideal S2x2048x1024 .f32) : FVec Ideal S2x16x2048x1024 .f32 :=
  Host.scatter D (fun _ b => b) (broadcastInDim S2x16x2048x1024 ![] bcast_S_S2x16x2048x1024 (constant (F := Ideal) S_ .f32 0x00000000#32))
    (places x) (full 0x3F800000#32)

theorem out_eq (x : FVec Ideal S2x2048x1024 .f32) : out x = hot (F := Ideal) x := by
  funext z
  unfold out hot
  rw [code_eq]
  by_cases h : (z 1).val = (step (x (source z))).toNat
  · rw [if_pos h]
    exact scatter_set_hit D _ (places x) _ z _ (fun _ _ => rfl) (source z) ((lands_places x _ z).2 ⟨rfl, h.symm, rfl, rfl⟩)
  · rw [if_neg h]
    refine scatter_set_miss D _ (places x) _ z fun k hk => h ?_
    obtain ⟨p0, p1, p2, p3⟩ := (lands_places x k z).1 hk
    have : k = source z := by
      funext a; match a with | 0 => exact Fin.ext p0 | 1 => exact Fin.ext p2 | 2 => exact Fin.ext p3
    rw [← this]
    exact p1.symm

end Cert.Proof.Target

end
-- ==== Proof.lean ====
/-
  The proof of the claim: the kernel's program runs and leaves its argument, the reference's program runs and leaves its
  argument, and their results are the same extended reals element by element.
-/
module

public import proofs.«01_k».proof.Defs
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Sigmoid
public import proofs.«01_k».proof.Proof.Value
public import proofs.«01_k».proof.Proof.Target

@[expose] public section

noncomputable section

namespace Cert.Proof

open Idealize.ShloMosaic Idealize.SL.Sem

instance (e : EltTy) : Nonempty (Elt Ideal e) := by cases e <;> exact ⟨0⟩

/-- The kernel's program runs from any memory, leaves its argument and ends with every counter at zero. -/
theorem kernel_frame : Cert.quiescent_KernelIdeal := fun m g _ =>
  (θ_run Cert.KernelIdeal.defs _ _).mono (fun _ h => ⟨fun c => (h.1 c).1, h.2⟩) (Spike.run_main (F := Ideal) m g Spike.code_lt)

/-- The reference's program runs from any memory and leaves its argument; it declares no counter. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Both results are one at the time each element's word names and zero at every other time. -/
theorem same_values : Cert.algebraic_KernelIdeal_ReferenceIdeal := by
  intro m g m' g' _ hin
  refine ⟨fun c => Spike.hot (F := Ideal) (m ((c.tc : Thread Cert.KernelIdeal.nD Cert.KernelIdeal.τ).loc Cert.KernelIdeal.main_arg0)), ?_, ?_⟩
  · exact (θ_run Cert.KernelIdeal.defs _ _).mono (fun _ h c => ⟨(h.1 c).2.trans (Spike.V7_result m c), (h.1 c).1⟩)
      (Spike.run_main (F := Ideal) m g Spike.code_lt)
  · refine (θ_run Cert.ReferenceIdeal.defs _ _).mono (fun _ h c => ⟨(h c).1.trans ?_, (h c).2⟩) (Cert.ReferenceIdeal.Value.run (F := Ideal) m' g')
    exact (Target.out_eq _).trans (congrArg (Spike.hot (F := Ideal)) (hin c))

theorem claim : Cert.Claim :=
  ⟨Cert.KernelIdeal.Gen.facts, Cert.ReferenceIdeal.Gen.facts, kernel_frame, reference_frame, same_values⟩

end Cert.Proof

end
